-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 4096, 512]⟩ ⟨3, ![2, 4096, 2048]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 512]⟩ ⟨3, ![2, 4096, 2048]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x4096x512 : Shape := ⟨3, ![2, 4096, 512]⟩
abbrev S2x128 : Shape := ⟨2, ![2, 128]⟩
abbrev S128x512 : Shape := ⟨2, ![128, 512]⟩
abbrev S_ : Shape := ⟨0, ![]⟩

class Facts : Prop where
  bcast_S_S2x4096x512 : S_.BroadcastsInDim S2x4096x512 (![] : Fin 0 → Fin S2x4096x512.rank)

variable [Facts]

def fn {F : FTy → Type} [FloatOps F] (main_arg0 : FVec F S2x4096x512 .f32) (main_arg1 : FVec F S2x128 .bf16) (main_arg2 : FVec F S128x512 .bf16) (main_arg3 : FVec F S128x512 .bf16) : IVec S2x4096x512 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  main_v2
-- ==== Pre_finite_ReferenceIdeal.lean ====
abbrev S2x4096x2048 : Shape := ⟨3, ![2, 4096, 2048]⟩
abbrev S2x128 : Shape := ⟨2, ![2, 128]⟩
abbrev S128x2048 : Shape := ⟨2, ![128, 2048]⟩
abbrev S_ : Shape := ⟨0, ![]⟩

class Facts : Prop where
  bcast_S_S2x4096x2048 : S_.BroadcastsInDim S2x4096x2048 (![] : Fin 0 → Fin S2x4096x2048.rank)

variable [Facts]

def fn {F : FTy → Type} [FloatOps F] (main_arg0 : FVec F S2x4096x2048 .f32) (main_arg1 : FVec F S2x128 .bf16) (main_arg2 : FVec F S128x2048 .bf16) (main_arg3 : FVec F S128x2048 .bf16) : IVec S2x4096x2048 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  main_v2
-- ==== Kernel.lean ====
abbrev S2x4096x512 : Shape := ⟨3, ![2, 4096, 512]⟩
abbrev S2x128 : Shape := ⟨2, ![2, 128]⟩
abbrev S128x512 : Shape := ⟨2, ![128, 512]⟩
abbrev S8x512x512 : Shape := ⟨3, ![8, 512, 512]⟩
abbrev S4x4096 : Shape := ⟨2, ![4, 4096]⟩
abbrev S3x4x4096 : Shape := ⟨3, ![3, 4, 4096]⟩
abbrev S2x512x512 : Shape := ⟨3, ![2, 512, 512]⟩
abbrev S8 : Shape := ⟨1, ![8]⟩
abbrev S6 : Shape := ⟨1, ![6]⟩
abbrev S2 : Shape := ⟨1, ![2]⟩
abbrev S1 : Shape := ⟨1, ![1]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S1x2x4096 : Shape := ⟨3, ![1, 2, 4096]⟩
abbrev S2x4096 : Shape := ⟨2, ![2, 4096]⟩
abbrev S2x512 : Shape := ⟨2, ![2, 512]⟩
abbrev S1x4x4096 : Shape := ⟨3, ![1, 4, 4096]⟩
abbrev S4096x4 : Shape := ⟨2, ![4096, 4]⟩
abbrev S4096x1 : Shape := ⟨2, ![4096, 1]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2x4096x512, .f32⟩
  | .hbm, ⟨1, _⟩ => ⟨S2x128, .bf16⟩
  | .hbm, ⟨2, _⟩ => ⟨S128x512, .bf16⟩
  | .hbm, ⟨3, _⟩ => ⟨S128x512, .bf16⟩
  | .hbm, ⟨4, _⟩ => ⟨S2x4096x512, .bf16⟩
  | .local _ .vmem, ⟨0, _⟩ => ⟨S2x128, .bf16⟩
  | .local _ .vmem, ⟨1, _⟩ => ⟨S128x512, .bf16⟩
  | .local _ .vmem, ⟨2, _⟩ => ⟨S128x512, .bf16⟩
  | .local _ .vmem, ⟨3, _⟩ => ⟨S8x512x512, .f32⟩
  | .local _ .vmem, ⟨4, _⟩ => ⟨S2x4096x512, .bf16⟩
  | .local _ .vmem, ⟨5, _⟩ => ⟨S4x4096, .f32⟩
  | .local _ .vmem, ⟨6, _⟩ => ⟨S3x4x4096, .f32⟩
  | .local _ .vmem, ⟨7, _⟩ => ⟨S2x512x512, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v52 : BitVec 32 := Scalar.addi v2 c1_i32_43
  let c4_i32_44 : BitVec 32 := 4#32
  let c0_i32_45 : BitVec 32 := 0#32
  let v53 : BitVec 1 := Scalar.cmpi .eq c4_i32_44 c0_i32_45
  let c1_i32_46 : BitVec 32 := 1#32
  let v54 : BitVec 32 := Scalar.select v53 c1_i32_46 c4_i32_44
  let v55 : BitVec 32 := Scalar.remsi v52 v54
  let c0_i32_48 : BitVec 32 := 0#32
  let v57 : BitVec 1 := Scalar.cmpi .slt v55 c0_i32_48
  let c0_i32_49 : BitVec 32 := 0#32
  let v58 : BitVec 1 := Scalar.cmpi .slt v54 c0_i32_49
  let v59 : BitVec 1 := Scalar.xori v57 v58
  let c0_i32_47 : BitVec 32 := 0#32
  let v56 : BitVec 1 := Scalar.cmpi .ne v55 c0_i32_47
  let v60 : BitVec 1 := Scalar.andi v59 v56
  let v61 : BitVec 32 := Scalar.addi v55 v54
  let v62 : BitVec 32 := Scalar.select v60 v61 v55
  let c1_i32_51 : BitVec 32 := 1#32
  let v63 : BitVec 32 := Scalar.muli v62 c1_i32_51
  let v64 : BitVec 32 := Scalar.addi c0_i32_52 v63
  v64.toNat
def k0_dev2 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v65 : BitVec 32 := Scalar.addi v2 c2_i32_53
  let c4_i32_54 : BitVec 32 := 4#32
  let c0_i32_55 : BitVec 32 := 0#32
  let v66 : BitVec 1 := Scalar.cmpi .eq c4_i32_54 c0_i32_55
  let c1_i32_56 : BitVec 32 := 1#32
  let v67 : BitVec 32 := Scalar.select v66 c1_i32_56 c4_i32_54
  let v68 : BitVec 32 := Scalar.remsi v65 v67
  let c0_i32_58 : BitVec 32 := 0#32
  let v70 : BitVec 1 := Scalar.cmpi .slt v68 c0_i32_58
  let c0_i32_59 : BitVec 32 := 0#32
  let v71 : BitVec 1 := Scalar.cmpi .slt v67 c0_i32_59
  let v72 : BitVec 1 := Scalar.xori v70 v71
  let c0_i32_57 : BitVec 32 := 0#32
  let v69 : BitVec 1 := Scalar.cmpi .ne v68 c0_i32_57
  let v73 : BitVec 1 := Scalar.andi v72 v69
  let v74 : BitVec 32 := Scalar.addi v68 v67
  let v75 : BitVec 32 := Scalar.select v73 v74 v68
  let c1_i32_61 : BitVec 32 := 1#32
  let v76 : BitVec 32 := Scalar.muli v75 c1_i32_61
  let v77 : BitVec 32 := Scalar.addi c0_i32_62 v76
  v77.toNat
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v78 : BitVec 32 := Scalar.addi v2 c3_i32_63
  let c4_i32_64 : BitVec 32 := 4#32
  let c0_i32_65 : BitVec 32 := 0#32
  let v79 : BitVec 1 := Scalar.cmpi .eq c4_i32_64 c0_i32_65
  let c1_i32_66 : BitVec 32 := 1#32
  let v80 : BitVec 32 := Scalar.select v79 c1_i32_66 c4_i32_64
  let v81 : BitVec 32 := Scalar.remsi v78 v80
  let c0_i32_68 : BitVec 32 := 0#32
  let v83 : BitVec 1 := Scalar.cmpi .slt v81 c0_i32_68
  let c0_i32_69 : BitVec 32 := 0#32
  let v84 : BitVec 1 := Scalar.cmpi .slt v80 c0_i32_69
  let v85 : BitVec 1 := Scalar.xori v83 v84
  let c0_i32_67 : BitVec 32 := 0#32
  let v82 : BitVec 1 := Scalar.cmpi .ne v81 c0_i32_67
  let v86 : BitVec 1 := Scalar.andi v85 v82
  let v87 : BitVec 32 := Scalar.addi v81 v80
  let v88 : BitVec 32 := Scalar.select v86 v87 v81
  let c1_i32_71 : BitVec 32 := 1#32
  let v89 : BitVec 32 := Scalar.muli v88 c1_i32_71
  let v90 : BitVec 32 := Scalar.addi c0_i32_72 v89
  v90.toNat
def k0_dev4 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_267 : BitVec 32 := 1#32
  let v308 : BitVec 32 := Scalar.addi v2 c1_i32_267
  let c4_i32_268 : BitVec 32 := 4#32
  let c0_i32_269 : BitVec 32 := 0#32
  let v309 : BitVec 1 := Scalar.cmpi .eq c4_i32_268 c0_i32_269
  let c1_i32_270 : BitVec 32 := 1#32
  let v310 : BitVec 32 := Scalar.select v309 c1_i32_270 c4_i32_268
  let v311 : BitVec 32 := Scalar.remsi v308 v310
  let c0_i32_272 : BitVec 32 := 0#32
  let v313 : BitVec 1 := Scalar.cmpi .slt v311 c0_i32_272
  let c0_i32_273 : BitVec 32 := 0#32
  let v314 : BitVec 1 := Scalar.cmpi .slt v310 c0_i32_273
  let v315 : BitVec 1 := Scalar.xori v313 v314
  let c0_i32_271 : BitVec 32 := 0#32
  let v312 : BitVec 1 := Scalar.cmpi .ne v311 c0_i32_271
  let v316 : BitVec 1 := Scalar.andi v315 v312
  let v317 : BitVec 32 := Scalar.addi v311 v310
  let v318 : BitVec 32 := Scalar.select v316 v317 v311
  let c1_i32_277 : BitVec 32 := 1#32
  let v319 : BitVec 32 := Scalar.muli v318 c1_i32_277
  let v320 : BitVec 32 := Scalar.addi c0_i32_278 v319
  v320.toNat
def k0_dev5 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_283 : BitVec 32 := 2#32
  let v328 : BitVec 32 := Scalar.addi v2 c2_i32_283
  let c4_i32_284 : BitVec 32 := 4#32
  let c0_i32_285 : BitVec 32 := 0#32
  let v329 : BitVec 1 := Scalar.cmpi .eq c4_i32_284 c0_i32_285
  let c1_i32_286 : BitVec 32 := 1#32
  let v330 : BitVec 32 := Scalar.select v329 c1_i32_286 c4_i32_284
  let v331 : BitVec 32 := Scalar.remsi v328 v330
  let c0_i32_288 : BitVec 32 := 0#32
  let v333 : BitVec 1 := Scalar.cmpi .slt v331 c0_i32_288
  let c0_i32_289 : BitVec 32 := 0#32
  let v334 : BitVec 1 := Scalar.cmpi .slt v330 c0_i32_289
  let v335 : BitVec 1 := Scalar.xori v333 v334
  let c0_i32_287 : BitVec 32 := 0#32
  let v332 : BitVec 1 := Scalar.cmpi .ne v331 c0_i32_287
  let v336 : BitVec 1 := Scalar.andi v335 v332
  let v337 : BitVec 32 := Scalar.addi v331 v330
  let v338 : BitVec 32 := Scalar.select v336 v337 v331
  let c1_i32_293 : BitVec 32 := 1#32
  let v339 : BitVec 32 := Scalar.muli v338 c1_i32_293
  let v340 : BitVec 32 := Scalar.addi c0_i32_294 v339
  v340.toNat
def k0_dev6 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_299 : BitVec 32 := 3#32
  let v348 : BitVec 32 := Scalar.addi v2 c3_i32_299
  let c4_i32_300 : BitVec 32 := 4#32
  let c0_i32_301 : BitVec 32 := 0#32
  let v349 : BitVec 1 := Scalar.cmpi .eq c4_i32_300 c0_i32_301
  let c1_i32_302 : BitVec 32 := 1#32
  let v350 : BitVec 32 := Scalar.select v349 c1_i32_302 c4_i32_300
  let v351 : BitVec 32 := Scalar.remsi v348 v350
  let c0_i32_304 : BitVec 32 := 0#32
  let v353 : BitVec 1 := Scalar.cmpi .slt v351 c0_i32_304
  let c0_i32_305 : BitVec 32 := 0#32
  let v354 : BitVec 1 := Scalar.cmpi .slt v350 c0_i32_305
  let v355 : BitVec 1 := Scalar.xori v353 v354
  let c0_i32_303 : BitVec 32 := 0#32
  let v352 : BitVec 1 := Scalar.cmpi .ne v351 c0_i32_303
  let v356 : BitVec 1 := Scalar.andi v355 v352
  let v357 : BitVec 32 := Scalar.addi v351 v350
  let v358 : BitVec 32 := Scalar.select v356 v357 v351
  let c1_i32_309 : BitVec 32 := 1#32
  let v359 : BitVec 32 := Scalar.muli v358 c1_i32_309
  let v360 : BitVec 32 := Scalar.addi c0_i32_310 v359
  v360.toNat
def k0_dev7 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_467 : BitVec 32 := 1#32
  let v536 : BitVec 32 := Scalar.addi v2 c1_i32_467
  let c4_i32_468 : BitVec 32 := 4#32
  let c0_i32_469 : BitVec 32 := 0#32
  let v537 : BitVec 1 := Scalar.cmpi .eq c4_i32_468 c0_i32_469
  let c1_i32_470 : BitVec 32 := 1#32
  let v538 : BitVec 32 := Scalar.select v537 c1_i32_470 c4_i32_468
  let v539 : BitVec 32 := Scalar.remsi v536 v538
  let c0_i32_472 : BitVec 32 := 0#32
  let v541 : BitVec 1 := Scalar.cmpi .slt v539 c0_i32_472
  let c0_i32_473 : BitVec 32 := 0#32
  let v542 : BitVec 1 := Scalar.cmpi .slt v538 c0_i32_473
  let v543 : BitVec 1 := Scalar.xori v541 v542
  let c0_i32_471 : BitVec 32 := 0#32
  let v540 : BitVec 1 := Scalar.cmpi .ne v539 c0_i32_471
  let v544 : BitVec 1 := Scalar.andi v543 v540
  let v545 : BitVec 32 := Scalar.addi v539 v538
  let v546 : BitVec 32 := Scalar.select v544 v545 v539
  let c1_i32_477 : BitVec 32 := 1#32
  let v547 : BitVec 32 := Scalar.muli v546 c1_i32_477
  let v548 : BitVec 32 := Scalar.addi c0_i32_478 v547
  v548.toNat
def k0_dev8 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_483 : BitVec 32 := 2#32
  let v556 : BitVec 32 := Scalar.addi v2 c2_i32_483
  let c4_i32_484 : BitVec 32 := 4#32
  let c0_i32_485 : BitVec 32 := 0#32
  let v557 : BitVec 1 := Scalar.cmpi .eq c4_i32_484 c0_i32_485
  let c1_i32_486 : BitVec 32 := 1#32
  let v558 : BitVec 32 := Scalar.select v557 c1_i32_486 c4_i32_484
  let v559 : BitVec 32 := Scalar.remsi v556 v558
  let c0_i32_488 : BitVec 32 := 0#32
  let v561 : BitVec 1 := Scalar.cmpi .slt v559 c0_i32_488
  let c0_i32_489 : BitVec 32 := 0#32
  let v562 : BitVec 1 := Scalar.cmpi .slt v558 c0_i32_489
  let v563 : BitVec 1 := Scalar.xori v561 v562
  let c0_i32_487 : BitVec 32 := 0#32
  let v560 : BitVec 1 := Scalar.cmpi .ne v559 c0_i32_487
  let v564 : BitVec 1 := Scalar.andi v563 v560
  let v565 : BitVec 32 := Scalar.addi v559 v558
  let v566 : BitVec 32 := Scalar.select v564 v565 v559
  let c1_i32_493 : BitVec 32 := 1#32
  let v567 : BitVec 32 := Scalar.muli v566 c1_i32_493
  let v568 : BitVec 32 := Scalar.addi c0_i32_494 v567
  v568.toNat
def k0_dev9 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_499 : BitVec 32 := 3#32
  let v576 : BitVec 32 := Scalar.addi v2 c3_i32_499
  let c4_i32_500 : BitVec 32 := 4#32
  let c0_i32_501 : BitVec 32 := 0#32
  let v577 : BitVec 1 := Scalar.cmpi .eq c4_i32_500 c0_i32_501
  let c1_i32_502 : BitVec 32 := 1#32
  let v578 : BitVec 32 := Scalar.select v577 c1_i32_502 c4_i32_500
  let v579 : BitVec 32 := Scalar.remsi v576 v578
  let c0_i32_504 : BitVec 32 := 0#32
  let v581 : BitVec 1 := Scalar.cmpi .slt v579 c0_i32_504
  let c0_i32_505 : BitVec 32 := 0#32
  let v582 : BitVec 1 := Scalar.cmpi .slt v578 c0_i32_505
  let v583 : BitVec 1 := Scalar.xori v581 v582
  let c0_i32_503 : BitVec 32 := 0#32
  let v580 : BitVec 1 := Scalar.cmpi .ne v579 c0_i32_503
  let v584 : BitVec 1 := Scalar.andi v583 v580
  let v585 : BitVec 32 := Scalar.addi v579 v578
  let v586 : BitVec 32 := Scalar.select v584 v585 v579
  let c1_i32_509 : BitVec 32 := 1#32
  let v587 : BitVec 32 := Scalar.muli v586 c1_i32_509
  let v588 : BitVec 32 := Scalar.addi c0_i32_510 v587
  v588.toNat
abbrev stage0_0 : Fin 1 → Memref sig .tc .vmem S2x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x4096x2048 : Shape := ⟨3, ![2, 4096, 2048]⟩
abbrev S2x128 : Shape := ⟨2, ![2, 128]⟩
abbrev S128x2048 : Shape := ⟨2, ![128, 2048]⟩
abbrev S_ : Shape := ⟨0, ![]⟩
abbrev S2x4096 : Shape := ⟨2, ![2, 4096]⟩
abbrev S2x4096x1 : Shape := ⟨3, ![2, 4096, 1]⟩
abbrev S2x2048 : Shape := ⟨2, ![2, 2048]⟩
abbrev S2x1x2048 : Shape := ⟨3, ![2, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x128, .bf16⟩
  | .hbm, ⟨2, _⟩ => ⟨S128x2048, .bf16⟩
  | .hbm, ⟨3, _⟩ => ⟨S128x2048, .bf16⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .i32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x2048, .f32⟩
  | .hbm, ⟨41, _⟩ => ⟨S2x4096x2048, .f32⟩
  | .hbm, ⟨42, _⟩ => ⟨S2x128, .f32⟩
  | .hbm, ⟨43, _⟩ => ⟨S128x2048, .f32⟩
  | .hbm, ⟨44, _⟩ => ⟨S2x2048, .f32⟩
  | .hbm, ⟨45, _⟩ => ⟨S2x128, .f32⟩
  | .hbm, ⟨46, _⟩ => ⟨S128x2048, .f32⟩
  | .hbm, ⟨47, _⟩ => ⟨S2x2048, .f32⟩
  | .hbm, ⟨48, _⟩ => ⟨S2x1x2048, .f32⟩
  | .hbm, ⟨49, _⟩ => ⟨S_, .f32⟩
  | .hbm, ⟨50, _⟩ => ⟨S2x1x2048, .f32⟩
  | .hbm, ⟨51, _⟩ => ⟨S2x1x2048, .f32⟩
  | .hbm, ⟨52, _⟩ => ⟨S2x4096x2048, .f32⟩
  | .hbm, ⟨53, _⟩ => ⟨S2x4096x2048, .f32⟩
  | .hbm, ⟨54, _⟩ => ⟨S2x1x2048, .f32⟩
  | .hbm, ⟨55, _⟩ => ⟨S2x4096x2048, .f32⟩
  | .hbm, ⟨56, _⟩ => ⟨S2x4096x2048, .f32⟩
  | .hbm, ⟨57, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩

abbrev nD : Nat := 1
abbrev τ : Topo := Topo.v7x

variable {F : FTy → Type} [FloatOps F]
-- ==== Proof.KRun4.lean ====
/-
The body up to the first copies' departures: the sixteen output chunks.
-/
module

public import proofs.«01_k».proof.Proof.KRun3

@[expose] public section

noncomputable section

namespace Cert.KProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

set_option maxHeartbeats 8000000 in
set_option sl_exec.dmaWindow true in
set_option sl_exec.dmaWindowLent true in
def s4 (c : Dev nD) (W : Waits sig Bool) (R : sProp 𝕄) (Q : PUnit → sProp 𝕄) : Σ' (G : Prop), G → (s3 m K c W R Q).1 := by
  sl_stretch
  sl_resume
  sl_exec_parts
  sl_seam

end Cert.KProof

end
-- ==== Proof.KIRow.lean ====
/-
One row over the extended reals: a row of numbers normalised with the mean of the squares is the row normalised with the
mean of the squared deviations. And the float words of the two programs as numbers.
-/
module

public import Idealize.ShloMosaic.Lib.IdealHost
public import Idealize.ShloMosaic.Lib.ValueIdx
public import Mathlib.Data.EReal.Inv
public import Mathlib.Analysis.SpecialFunctions.Pow.Real

@[expose] public section

noncomputable section

namespace Cert.Row

open Idealize.ShloMosaic

/-! ## The constants -/

/-- The word of 1/2048. -/
theorem bits_inv : Ideal.ofBits .f32 0x3A000000#32 = ((1 / 2048 : ℝ) : EReal) := by
  simp [Ideal.ofBits, Ideal.ieee, -EReal.coe_mul]; norm_num

/-- The word of 2048. -/
theorem bits_len : Ideal.ofBits .f32 0x45000000#32 = ((2048 : ℝ) : EReal) := by
  simp [Ideal.ofBits, Ideal.ieee, -EReal.coe_mul]; norm_num

/-- The word of eps is a positive number. -/
theorem bits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word of infinity. -/
theorem bits_top : Ideal.ofBits .f32 0x7F800000#32 = (⊤ : EReal) := by
  simp [Ideal.ofBits, Ideal.ieee, -EReal.coe_mul]

/-! ## Sums of numbers -/

theorem coe_sum {ι : Type} (s : Finset ι) (f : ι → ℝ) : (∑ i ∈ s, (f i : EReal)) = ((∑ i ∈ s, f i : ℝ) : EReal) := by
  induction s using Finset.cons_induction with
  | empty => simp
  | cons a s h ih => rw [Finset.sum_cons, Finset.sum_cons, ih, EReal.coe_add]

/-- A sum over 2048 columns, block by block. -/
theorem sum_blocks (f : Fin 2048 → EReal) : ∑ k : Fin 2048, f k = ∑ d : Fin 4, ∑ l : Fin 512, f ⟨d.val * 512 + l.val, by omega⟩ := by
  have e : ∑ k : Fin (4 * 512), f k = ∑ d : Fin 4, ∑ l : Fin 512, f (finProdFinEquiv (d, l)) := by
    rw [← Fintype.sum_prod_type', ← Equiv.sum_comp finProdFinEquiv]
  refine e.trans (Finset.sum_congr rfl fun d _ => Finset.sum_congr rfl fun l _ => congrArg f (Fin.ext ?_))
  show l.val + 512 * d.val = d.val * 512 + l.val
  omega

/-- The mean of the squares less the square of the mean is the mean of the squared deviations. -/
theorem var_eq (n : ℕ) (hn : n ≠ 0) (a : Fin n → ℝ) :
    (∑ i, a i * a i) * (1 / (n : ℝ)) - (∑ i, a i) * (1 / (n : ℝ)) * ((∑ i, a i) * (1 / (n : ℝ)))
      = (∑ i, (a i - (∑ i, a i) * (1 / (n : ℝ))) * (a i - (∑ i, a i) * (1 / (n : ℝ)))) * (1 / (n : ℝ)) := by
  have hn' : (n : ℝ) ≠ 0 := Nat.cast_ne_zero.mpr hn
  generalize hs : ∑ i, a i = s
  have e : ∑ i, (a i - s * (1 / (n : ℝ))) * (a i - s * (1 / (n : ℝ)))
      = (∑ i, a i * a i) - 2 * (s * (1 / (n : ℝ))) * s + n * (s * (1 / (n : ℝ)) * (s * (1 / (n : ℝ)))) := by
    have h : ∀ i, (a i - s * (1 / (n : ℝ))) * (a i - s * (1 / (n : ℝ)))
        = a i * a i - 2 * (s * (1 / (n : ℝ))) * a i + s * (1 / (n : ℝ)) * (s * (1 / (n : ℝ))) := fun i => by ring
    simp only [h, Finset.sum_add_distrib, Finset.sum_sub_distrib, ← Finset.mul_sum, hs, Finset.sum_const, Finset.card_univ,
      Fintype.card_fin, nsmul_eq_mul]
    ring
  have e1 : (n : ℝ) * (1 / (n : ℝ)) = 1 := by field_simp
  rw [e]
  linear_combination (-(s * s * (1 / (n : ℝ)) * (1 / (n : ℝ)))) * e1

/-! ## One row normalised -/

/-- The reciprocal root of the mean of the squares less the square of the mean plus `e`. -/
def rs (S Q e : EReal) : EReal :=
  Ideal.rsqrt (Q * ((1 / 2048 : ℝ) : EReal) - S * ((1 / 2048 : ℝ) : EReal) * (S * ((1 / 2048 : ℝ) : EReal)) + e)

/-- Both ways of normalising a row of 2048 numbers give the same number. -/
theorem norm_eq (a : Fin 2048 → ℝ) (e : ℝ) (he : 0 < e) (l : Fin 2048) :
    ((a l : EReal) * rs (∑ i, (a i : EReal)) (∑ i, (a i : EReal) * (a i : EReal)) e
        + (0 - (∑ i, (a i : EReal)) * ((1 / 2048 : ℝ) : EReal)) * rs (∑ i, (a i : EReal)) (∑ i, (a i : EReal) * (a i : EReal)) e)
      = Ideal.div ((a l : EReal) - Ideal.div (∑ i, (a i : EReal)) ((2048 : ℝ) : EReal))
          (Ideal.sqrt (Ideal.div (∑ i, ((a i : EReal) - Ideal.div (∑ i, (a i : EReal)) ((2048 : ℝ) : EReal))
            * ((a i : EReal) - Ideal.div (∑ i, (a i : EReal)) ((2048 : ℝ) : EReal))) ((2048 : ℝ) : EReal) + e)) := by
  have h2 : (2048 : ℝ) ≠ 0 := by norm_num
  have hv := var_eq 2048 (by norm_num) a
  rw [Nat.cast_ofNat] at hv
  have hq : ∑ i, (a i : EReal) * (a i : EReal) = ((∑ i, a i * a i : ℝ) : EReal) := by
    rw [← coe_sum]; exact Finset.sum_congr rfl fun i _ => (EReal.coe_mul _ _).symm
  have hs : ∑ i, (a i : EReal) = ((∑ i, a i : ℝ) : EReal) := coe_sum _ _
  unfold rs
  rw [hq, hs]
  generalize ∑ i, a i = s at *
  have hd : ∑ i, ((a i : EReal) - (s : EReal) * ((1 / 2048 : ℝ) : EReal)) * ((a i : EReal) - (s : EReal) * ((1 / 2048 : ℝ) : EReal))
      = ((∑ i, (a i - s * (1 / 2048)) * (a i - s * (1 / 2048)) : ℝ) : EReal) := by
    rw [← coe_sum]; exact Finset.sum_congr rfl fun i _ => by rw [← EReal.coe_mul, ← EReal.coe_sub, ← EReal.coe_mul]
  simp only [Ideal.div_coe h2]
  rw [hd]
  have hn : 0 ≤ ∑ i, (a i - s * (1 / 2048)) * (a i - s * (1 / 2048)) := Finset.sum_nonneg fun i _ => mul_self_nonneg _
  simp only [← EReal.coe_mul, ← EReal.coe_sub, ← EReal.coe_add]
  rw [hv]
  generalize (∑ i, (a i - s * (1 / 2048)) * (a i - s * (1 / 2048))) = d at *
  have hp : 0 < d * (1 / 2048) + e := by positivity
  have hr : Real.sqrt (d * (1 / 2048) + e) ≠ 0 := (Real.sqrt_pos.mpr hp).ne'
  rw [Ideal.rsqrt_coe, Ideal.sqrt_coe, if_neg hp.le.not_gt, if_neg hp.ne', if_neg hp.le.not_gt, Ideal.div_coe hr,
    ← EReal.coe_zero]
  simp only [← EReal.coe_mul, ← EReal.coe_sub, ← EReal.coe_add]
  refine congrArg Real.toEReal ?_
  rw [one_div (Real.sqrt _)]
  ring

end Cert.Row

end
-- ==== Proof.KICommon.lean ====
/-
The protocol of the kernel: devices on the ring of four, semaphore cells, contents, the rounds' schedule.

Device `c` sends its statistics rows to each of the three other devices, `fwd c j = c + (j+1)`, once per batch entry
`bi`; the copy lands in slot `j` of the landing buffer there. The semaphores and what each landing hands over:

* barrier cell of `c`: three duties of one unit at round 0. Duty `j` is paid by `fwd c j`, and hands over that device's
  landing slot `j` (both halves, any contents) and that it has reached round 0 of the receive cells `j` and `3+j`.
* send cell `3*bi+j` of `c`: one duty, paid by the copy itself when its source has been read; it hands back the share of
  the statistics rows `2*bi, 2*bi+1` that the copy read.
* receive cell `3*bi+j` of `c`: one duty, paid by the copy from `bwd c j`; it hands over rows `2*bi, 2*bi+1` of the landing
  slot `j`, holding those rows of the statistics of `bwd c j`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.Tactic
public import Idealize.ShloMosaic.Lib.ValueLayout

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## The resource algebra: the pipeline library's copy, the rounds' (duties `Fin 3`), the local transfers' counters -/

abbrev UB : Type := URounds (GSem nD τ sig) (Fin 3)
abbrev UU : Type := UR sig nD τ × (UB × Counters)

/-- Indices of obligations: `false` for the local transfers and the departures, `true` for what devices owe each other. -/
local notation "𝕄" => MT nD τ sig Bool (Elt F) ℕ UU ℕ

abbrev EP : Emb (UR sig nD τ) (MT nD τ sig Bool (Elt F) ℕ UU ℕ) := embL
abbrev ER : Emb UB (MT nD τ sig Bool (Elt F) ℕ UU ℕ) := (Emb.inl : Emb UB (UB × Counters)).trans embR

variable (m : (ℓ : Loc nD τ sig) → Buf (Elt F) ℓ)

/-! ## The ring -/

set_option backward.proofsInPublic true in
def fwd (c : Dev nD) (j : Fin 3) : Dev nD := ⟨(c.val + (j.val + 1)) % 4, Nat.mod_lt _ (by decide)⟩
set_option backward.proofsInPublic true in
def bwd (c : Dev nD) (j : Fin 3) : Dev nD := ⟨(c.val + (3 - j.val)) % 4, Nat.mod_lt _ (by decide)⟩

theorem bwd_fwd (c : Dev nD) (j : Fin 3) : bwd (fwd c j) j = c := by revert c j; decide
theorem fwd_bwd (c : Dev nD) (j : Fin 3) : fwd (bwd c j) j = c := by revert c j; decide
theorem fwd_rev (c : Dev nD) (j : Fin 3) : fwd (fwd c j) j.rev = c := by revert c j; decide

theorem dev1_eq (c : Dev nD) : (⟨k0_dev1 c, k0_dev1_lt c⟩ : Dev nD) = fwd c 0 := by revert c; decide
theorem dev2_eq (c : Dev nD) : (⟨k0_dev2 c, k0_dev2_lt c⟩ : Dev nD) = fwd c 1 := by revert c; decide
theorem dev3_eq (c : Dev nD) : (⟨k0_dev3 c, k0_dev3_lt c⟩ : Dev nD) = fwd c 2 := by revert c; decide
theorem dev4_eq (c : Dev nD) : (⟨k0_dev4 c, k0_dev4_lt c⟩ : Dev nD) = fwd c 0 := by revert c; decide
theorem dev5_eq (c : Dev nD) : (⟨k0_dev5 c, k0_dev5_lt c⟩ : Dev nD) = fwd c 1 := by revert c; decide
theorem dev6_eq (c : Dev nD) : (⟨k0_dev6 c, k0_dev6_lt c⟩ : Dev nD) = fwd c 2 := by revert c; decide
theorem dev7_eq (c : Dev nD) : (⟨k0_dev7 c, k0_dev7_lt c⟩ : Dev nD) = fwd c 0 := by revert c; decide
theorem dev8_eq (c : Dev nD) : (⟨k0_dev8 c, k0_dev8_lt c⟩ : Dev nD) = fwd c 1 := by revert c; decide
theorem dev9_eq (c : Dev nD) : (⟨k0_dev9 c, k0_dev9_lt c⟩ : Dev nD) = fwd c 2 := by revert c; decide

/-! ## Memrefs and cells -/

abbrev xM : Memref sig .tc .hbm S2x4096x512 .f32 := Memref.whole main_arg0
abbrev oM : Memref sig .tc .hbm S2x4096x512 .bf16 := Memref.whole main_v1
abbrev landM : Memref sig .tc .vmem S8x512x512 .f32 := Memref.whole cc0_scratch0
abbrev xbM : Memref sig .tc .vmem S2x4096x512 .bf16 := Memref.whole cc0_scratch1
abbrev stM : Memref sig .tc .vmem S4x4096 .f32 := Memref.whole cc0_scratch2
abbrev cmM : Memref sig .tc .vmem S3x4x4096 .f32 := Memref.whole cc0_scratch3
abbrev sgM : Memref sig .tc .vmem S2x512x512 .bf16 := Memref.whole cc0_scratch4

theorem inb_st (b : Fin 2) : ∀ a, (![2 * b.val, 0] : Fin 2 → Nat) a + S2x4096.size a ≤ S4x4096.size a := by revert b; decide
theorem inb_cm (j : Fin 3) (b : Fin 2) : ∀ a, (![j.val, 2 * b.val, 0] : Fin 3 → Nat) a + S1x2x4096.size a ≤ S3x4x4096.size a := by
  revert j b; decide

/-- Rows `2*b, 2*b+1` of the statistics. -/
abbrev stRow (b : Fin 2) : Memref sig .tc .vmem S2x4096 .f32 := stM.slice (Rect.unit (s := S4x4096) ![2 * b.val, 0] S2x4096.size (inb_st b)) (fun _ => rfl)
/-- Rows `2*b, 2*b+1` of landing slot `j`. -/
abbrev cmRow (j : Fin 3) (b : Fin 2) : Memref sig .tc .vmem S2x4096 .f32 :=
  (cmM.slice (Rect.unit (s := S3x4x4096) ![j.val, 2 * b.val, 0] S1x2x4096.size (inb_cm j b)) (fun _ => rfl)).squeeze S2x4096 squeezes_S1x2x4096_S2x4096

theorem inb_q (i : Fin 6) : ∀ a, (![i.val] : Fin 1 → Nat) a + S1.size a ≤ S6.size a := by revert i; decide

abbrev barS : Sem sig := (SemArray.scalar (sig.barrier 0 rfl) : Sems sig S_).sem
abbrev sendQ (i : Fin 6) : DmaSem sig := ((cc0_scratch6.slice (Rect.unit (s := S6) ![i.val] S1.size (inb_q i))).squeeze S_ squeezes_S1_S_).sem
abbrev recvQ (i : Fin 6) : DmaSem sig := ((cc0_scratch7.slice (Rect.unit (s := S6) ![i.val] S1.size (inb_q i))).squeeze S_ squeezes_S1_S_).sem

abbrev barCell (c : Dev nD) : GSem nD τ sig := ((c : Thread nD τ), .reg barS)
abbrev sendCell (c : Dev nD) (i : Fin 6) : GSem nD τ sig := ((c : Thread nD τ), .dma (sendQ i))
abbrev recvCell (c : Dev nD) (i : Fin 6) : GSem nD τ sig := ((c : Thread nD τ), .dma (recvQ i))

/-- The index of the copy of batch entry `b` to slot `j`. -/
abbrev ij (b : Fin 2) (j : Fin 3) : Fin 6 := ⟨3 * b.val + j.val, by omega⟩

/-- The credit of one copy of two rows. -/
abbrev N : ℕ := (cmRow 0 0).view.dmaCredit
theorem N_pos : 0 < N := View.dmaCredit_pos _ (by decide)

/-! ## Contents -/

/-- The input block of device `c`. -/
abbrev X (c : Dev nD) : S2x4096x512.Idx → F .f32 := m ((c : Thread nD τ).loc main_arg0)

/-- Chunk `k` of batch entry `b` of device `c`'s input: 512 rows of 512. -/
def chunk (c : Dev nD) (b : Fin 2) (k : Fin 8) : Vec F S1x512x512 .f32 := fun i =>
  X m c (ix3 b ⟨512 * k.val + (i 1).val, by have h1 : (i 1).val < 512 := (i 1).isLt; omega⟩ (i 2))

/-- The statistics of device `c`: per batch entry the row sums, then the row sums of squares. -/
def stC (c : Dev nD) : S4x4096.Idx → F .f32 := fun i =>
  let b : Fin 2 := ⟨(i 0).val / 2, by have h0 : (i 0).val < 4 := (i 0).isLt; omega⟩
  let k : Fin 8 := ⟨(i 1).val / 512, by have h1 : (i 1).val < 4096 := (i 1).isLt; omega⟩
  let r : S1x512.Idx := ix2 0 ⟨(i 1).val % 512, Nat.mod_lt _ (by decide)⟩
  if (i 0).val % 2 = 0 then k0_pay8 (k0_pay1 (F := F)) (chunk m c b k) r else k0_pay9 (k0_pay1 (F := F)) (chunk m c b k) r

/-- The landing buffer of device `c` once every copy has landed. -/
def cmC (c : Dev nD) : S3x4x4096.Idx → F .f32 := fun i => stC m (bwd c (i 0)) (ix2 (i 1) (i 2))

/-- The rounded copy of the input block. -/
def xbC (c : Dev nD) : S2x4096x512.Idx → F .bf16 := fun i =>
  k0_pay7 (chunk m c (i 0) ⟨(i 1).val / 512, by have h1 : (i 1).val < 4096 := (i 1).isLt; omega⟩)
    (ix3 0 ⟨(i 1).val % 512, Nat.mod_lt _ (by decide)⟩ (i 2))

def stPts (c : Dev nD) (b : Fin 2) (q : PosShare TreeShare) (f : S4x4096.Idx → F .f32) : sProp 𝕄 :=
  (stRow b).view.loc (c : Thread nD τ) ↦[(stRow b).view.set]{q} f
def cmPts (c : Dev nD) (j : Fin 3) (b : Fin 2) (f : S3x4x4096.Idx → F .f32) : sProp 𝕄 :=
  (cmRow j b).view.loc (c : Thread nD τ) ↦[(cmRow j b).view.set]{fullShare} f

omit [FloatOps F] in
instance stPts_storable (c : Dev nD) (b q f) : BI.Storable (upEmb : UEmb _ 𝕄) (stPts (F := F) c b q f) := by unfold stPts; infer_instance
omit [FloatOps F] in
instance cmPts_storable (c : Dev nD) (j b f) : BI.Storable (upEmb : UEmb _ 𝕄) (cmPts (F := F) c j b f) := by unfold cmPts; infer_instance

instance ER_landsIn : (ER (F := F)).LandsIn (upEmb : UEmb _ 𝕄) := by infer_instance

/-! ## The schedule -/

/-- The share of the statistics rows that copy `j` reads; the fourth quarter stays with the device. -/
def shr (j : Fin 3) : PosShare TreeShare := match j with
  | 0 => fullShare.left.left | 1 => fullShare.left.right | 2 => fullShare.right.left
abbrev shrKept : PosShare TreeShare := fullShare.right.right

/-- What `fwd c j` hands device `c` with its signal: its landing slot `j`, and that it is at round 0 of the two receive cells. -/
def barPay (c : Dev nD) (j : Fin 3) : sProp 𝕄 :=
  iprop((∃ f, cmPts (fwd c j) j 0 f) ∗ (∃ f, cmPts (fwd c j) j 1 f)
    ∗ reached ER (recvCell (fwd c j) (ij 0 j)) 0 ∗ reached ER (recvCell (fwd c j) (ij 1 j)) 0)
def sendPay (c : Dev nD) (i : Fin 6) : sProp 𝕄 :=
  stPts c ⟨i.val / 3, by omega⟩ (shr ⟨i.val % 3, Nat.mod_lt _ (by decide)⟩) (stC m c)
def recvPay (c : Dev nD) (i : Fin 6) : sProp 𝕄 :=
  cmPts c ⟨i.val % 3, Nat.mod_lt _ (by decide)⟩ ⟨i.val / 3, by omega⟩ (cmC m c)

/-- What landing on DMA semaphore `q` of device `c` hands over: `q` counts the semaphores, sends from 11, receives from 17. -/
def dmaPay (c : Dev nD) (q : DmaSem sig) : sProp 𝕄 :=
  if h : 11 ≤ q.val ∧ q.val < 17 then sendPay m c ⟨q.val - 11, by omega⟩
  else if h : 17 ≤ q.val ∧ q.val < 23 then recvPay m c ⟨q.val - 17, by omega⟩
  else iprop(emp)

theorem sendQ_val (i : Fin 6) : (sendQ i).val = 11 + i.val := by revert i; decide
theorem recvQ_val (i : Fin 6) : (recvQ i).val = 17 + i.val := by revert i; decide

/-- One round, round 0: a barrier cell has three duties of one unit, a send or receive cell the duty 0 of a copy's credit. -/
def ringRd : Rounds.Schedule (GSem nD τ sig) (Fin 3) 𝕄 where
  duties g r := if r = 0 ∧ g.1.2 = .tc then
      (match g.2 with
        | .reg s => if s = barS then Finset.univ else ∅
        | .dma q => if 11 ≤ q.val ∧ q.val < 23 then {0} else ∅)
    else ∅
  unitless _ := False
  amount g _ _ := match g.2 with | .reg _ => 1 | .dma _ => N
  payload g _ d := match g.2 with | .reg _ => barPay g.1.1 d | .dma q => dmaPay m g.1.1 q
  amount_pos g _ _ _ := by
    rcases g with ⟨t, s | q⟩
    · exact Nat.one_pos
    · exact N_pos

instance ringRd_payload_storable (g : GSem nD τ sig) (r : ℕ) (d : Fin 3) :
    BI.Storable (upEmb : UEmb _ 𝕄) ((ringRd (F := F) m).payload g r d) := by
  rcases g with ⟨t, s | q⟩
  · show BI.Storable upEmb (barPay t.1 d)
    unfold barPay; infer_instance
  · show BI.Storable upEmb (dmaPay m t.1 q)
    unfold dmaPay sendPay recvPay
    (repeat' split) <;> infer_instance

section Sched
variable (c : Dev nD) (i : Fin 6)

theorem duties_bar : (ringRd (F := F) m).duties (barCell c) 0 = {0, 1, 2} := by
  dsimp only [ringRd]; rw [if_pos ⟨rfl, rfl⟩, if_pos rfl]; decide
theorem duties_send : (ringRd (F := F) m).duties (sendCell c i) 0 = {0} := by
  dsimp only [ringRd]; rw [if_pos ⟨rfl, rfl⟩, if_pos (by rw [sendQ_val]; omega)]
theorem duties_recv : (ringRd (F := F) m).duties (recvCell c i) 0 = {0} := by
  dsimp only [ringRd]; rw [if_pos ⟨rfl, rfl⟩, if_pos (by rw [recvQ_val]; omega)]
theorem duties_later (g : GSem nD τ sig) : ∀ r, 1 ≤ r → (ringRd (F := F) m).duties g r = ∅ :=
  fun r hr => by dsimp only [ringRd]; rw [if_neg fun h => by omega]

theorem amount_bar (d : Fin 3) : (ringRd (F := F) m).amount (barCell c) 0 d = 1 := rfl
theorem amount_send (d : Fin 3) : (ringRd (F := F) m).amount (sendCell c i) 0 d = N := rfl
theorem amount_recv (d : Fin 3) : (ringRd (F := F) m).amount (recvCell c i) 0 d = N := rfl

theorem expect_bar : (ringRd (F := F) m).expect (barCell c) 0 = 3 := by
  unfold Schedule.expect Schedule.amountOf
  rw [duties_bar, Finset.sum_congr rfl fun d _ => amount_bar m c d]; rfl
theorem expect_send : (ringRd (F := F) m).expect (sendCell c i) 0 = N := by
  unfold Schedule.expect Schedule.amountOf; rw [duties_send, Finset.sum_singleton, amount_send]
theorem expect_recv : (ringRd (F := F) m).expect (recvCell c i) 0 = N := by
  unfold Schedule.expect Schedule.amountOf; rw [duties_recv, Finset.sum_singleton, amount_recv]

theorem payload_bar (d : Fin 3) : (ringRd (F := F) m).payload (barCell c) 0 d = barPay c d := rfl
theorem payload_send (d : Fin 3) : (ringRd (F := F) m).payload (sendCell c i) 0 d = sendPay m c i := by
  show dmaPay m c (sendQ i) = _
  unfold dmaPay
  rw [dif_pos (by rw [sendQ_val]; omega)]
  congr 1; apply Fin.ext; show (sendQ i).val - 11 = _; rw [sendQ_val]; omega
theorem payload_recv (d : Fin 3) : (ringRd (F := F) m).payload (recvCell c i) 0 d = recvPay m c i := by
  show dmaPay m c (recvQ i) = _
  unfold dmaPay
  rw [dif_neg (by rw [recvQ_val]; omega), dif_pos (by rw [recvQ_val]; omega)]
  congr 1; apply Fin.ext; show (recvQ i).val - 17 = _; rw [recvQ_val]; omega

/-- The whole barrier round: the three payloads. -/
theorem rest_bar : bigSep ((ringRd (F := F) m).duties (barCell c) 0 \ ∅) (fun d => (ringRd (F := F) m).payload (barCell c) 0 d)
    = iprop(barPay c 0 ∗ barPay c 1 ∗ barPay c 2) := by
  rw [Finset.sdiff_empty, duties_bar, show ({0, 1, 2} : Finset (Fin 3)) = Finset.univ from by decide,
    bigSep_univ_eq_bigSepL [0, 1, 2] (by decide) (by decide), bigSepL_cons_cons, bigSepL_cons_cons, bigSepL_singleton]
  rfl
theorem rest_send : bigSep ((ringRd (F := F) m).duties (sendCell c i) 0 \ ∅) (fun d => (ringRd (F := F) m).payload (sendCell c i) 0 d) = sendPay m c i := by
  rw [Finset.sdiff_empty, duties_send, bigSep_singleton, payload_send]
theorem rest_recv : bigSep ((ringRd (F := F) m).duties (recvCell c i) 0 \ ∅) (fun d => (ringRd (F := F) m).payload (recvCell c i) 0 d) = recvPay m c i := by
  rw [Finset.sdiff_empty, duties_recv, bigSep_singleton, payload_recv]

end Sched

/-! ## What each device owes at launch; the levels -/

/-- The credit that copy `j` of batch entry `b` gives the receive cell where it lands. -/
abbrev dR (c : Dev nD) (b : Fin 2) (j : Fin 3) : CellTallies nD τ sig Bool := tallyAt (recvCell (fwd c j) (ij b j)) true N
/-- The unit that signal `j` gives the barrier cell of `fwd c j`. -/
abbrev dB (c : Dev nD) (j : Fin 3) : CellTallies nD τ sig Bool := tallyAt (barCell (fwd c j)) true 1

/-- Owed before the second batch entry's copies, before the first's, at launch: the next to be paid stands last. -/
def O₃ (c : Dev nD) : CellTallies nD τ sig Bool := dR c 1 2 + dR c 1 1 + dR c 1 0
def O₆ (c : Dev nD) : CellTallies nD τ sig Bool := O₃ c + dR c 0 2 + dR c 0 1 + dR c 0 0
def O₀ (c : Dev nD) : CellTallies nD τ sig Bool := O₆ c + dB c 2 + dB c 1 + dB c 0

def L (g : GSem nD τ sig) : Finset Bool := if g.1.2 = .tc then Finset.univ else ∅
/-- The device's own transfers at 0; between devices the barrier cells at 1, the receive cells at 2. -/
def lv (g : GSem nD τ sig) (u : Bool) : ℕ := if u = false then 0 else match g.2 with | .reg _ => 1 | .dma _ => 2

theorem L_of_ne (g : GSem nD τ sig) (h : g.1.2 ≠ .tc) : L g = ∅ := if_neg h
theorem mem_L (c : Dev nD) (sm : SemLoc sig) (u : Bool) : u ∈ L ((c : Thread nD τ), sm) := by
  unfold L; rw [if_pos rfl]; exact Finset.mem_univ _

/-- A debt all of whose parts are on cells of cores, at the index `true`, each at least at level `k`. -/
def Above (k : ℕ) (O : CellTallies nD τ sig Bool) : Prop :=
  ∀ g u, 0 < O g u → u = true ∧ u ∈ L g ∧ k ≤ lv g u

theorem Above.zero (k : ℕ) : Above k 0 := fun g u h => absurd h (Nat.lt_irrefl 0)
theorem Above.add {k : ℕ} {O O' : CellTallies nD τ sig Bool} (h : Above k O) (h' : Above k O') : Above k (O + O') := fun g u hg => by
  rw [Pi.add_apply, Finsupp.add_apply] at hg
  rcases Nat.eq_zero_or_pos (O g u) with h0 | h0
  · exact h' g u (by omega)
  · exact h g u h0
theorem Above.tally {k : ℕ} (c : Dev nD) (sm : SemLoc sig) (n : ℕ) (hk : k ≤ lv ((c : Thread nD τ), sm) true) :
    Above k (tallyAt ((c : Thread nD τ), sm) true n) := fun g u hg => by
  rw [tallyAt_apply] at hg
  by_cases h : g = ((c : Thread nD τ), sm) ∧ u = true
  · obtain ⟨rfl, rfl⟩ := h; exact ⟨rfl, mem_L _ _ _, hk⟩
  · rw [if_neg h] at hg; exact absurd hg (Nat.lt_irrefl 0)
theorem above_dR (c : Dev nD) (b : Fin 2) (j : Fin 3) : Above 2 (dR c b j) := Above.tally _ _ _ (le_refl 2)
theorem above_dB (c : Dev nD) (j : Fin 3) : Above 1 (dB c j) := Above.tally _ _ _ (le_refl 1)
theorem Above.mono {k l : ℕ} {O : CellTallies nD τ sig Bool} (hl : l ≤ k) (h : Above k O) : Above l O :=
  fun g u hg => let ⟨a, b, c⟩ := h g u hg; ⟨a, b, hl.trans c⟩
theorem above_O₃ (c : Dev nD) : Above 2 (O₃ c) := ((above_dR c 1 2).add (above_dR c 1 1)).add (above_dR c 1 0)
theorem above_O₆ (c : Dev nD) : Above 2 (O₆ c) := (((above_O₃ c).add (above_dR c 0 2)).add (above_dR c 0 1)).add (above_dR c 0 0)
theorem above_O₀ (c : Dev nD) : Above 1 (O₀ c) :=
  ((((above_O₆ c).mono (by decide)).add (above_dB c 2)).add (above_dB c 1)).add (above_dB c 0)

/-- Under a debt above level 0 a device may wait for any of its own transfers. -/
theorem mayWaits_own (c : Dev nD) (O : CellTallies nD τ sig Bool) (h : Above 1 O) :
    (levAts L lv : sProp 𝕄) ⊢ Transfers.MayWaits (c : Thread nD τ) false O :=
  Transfers.MayWaits.intro fun sm =>
    MayOwe.of_cut (L := L) (lev := lv) 0 (fun p hp => by rw [Finset.mem_singleton.mp hp]; exact mem_L _ _ _)
      (fun g u hg => (h g u hg).2.1)
      (fun p hp => by rw [Finset.mem_singleton.mp hp]; exact le_refl 0)
      (fun g u hg => (h g u hg).2.2)

/-- Under a debt of receive credits only a device may wait on its barrier cell. -/
theorem mayWait_bar (c : Dev nD) (O : CellTallies nD τ sig Bool) (h : Above 2 O) :
    (levAts L lv : sProp 𝕄) ⊢ MayWait (c : Thread nD τ) (.reg barS) true O :=
  MayOwe.of_cut (L := L) (lev := lv) 1 (fun p hp => by rw [Finset.mem_singleton.mp hp]; exact mem_L _ _ _)
    (fun g u hg => (h g u hg).2.1)
    (fun p hp => by rw [Finset.mem_singleton.mp hp]; exact le_refl 1)
    (fun g u hg => (h g u hg).2.2)

/-! ## All cells together -/

/-- The protocol's semaphores: the barrier, the six sends, the six receives. -/
def csem (k : Fin 13) : SemLoc sig :=
  if k.val = 0 then .reg barS
  else if h : k.val < 7 then .dma (sendQ ⟨k.val - 1, by omega⟩) else .dma (recvQ ⟨k.val - 7, by omega⟩)
abbrev kcell (p : Dev nD × Fin 13) : GSem nD τ sig := ((p.1 : Thread nD τ), csem p.2)
abbrev iS (i : Fin 6) : Fin 13 := ⟨1 + i.val, by omega⟩
abbrev iR (i : Fin 6) : Fin 13 := ⟨7 + i.val, by omega⟩
theorem kcell_bar (c : Dev nD) : kcell (c, 0) = barCell c := rfl
theorem kcell_send (c : Dev nD) (i : Fin 6) : kcell (c, iS i) = sendCell c i := by revert i; intro i; fin_cases i <;> rfl
theorem kcell_recv (c : Dev nD) (i : Fin 6) : kcell (c, iR i) = recvCell c i := by revert i; intro i; fin_cases i <;> rfl

/-- Every cell's invariant, under the names `K`, and that every cell has reached round 0. -/
def invAll (K : Dev nD × Fin 13 → ℕ) : sProp 𝕄 :=
  iprop((bigSep Finset.univ fun p => cellInv ER (ringRd m) (K p) (kcell p)) ∗ bigSep Finset.univ fun p => reached ER (kcell p) 0)
instance invAll_persistent (K : Dev nD × Fin 13 → ℕ) : BI.Persistent (invAll m K) := by unfold invAll; infer_instance

theorem inv_of (K : Dev nD × Fin 13 → ℕ) (p : Dev nD × Fin 13) : invAll m K ⊢ cellInv ER (ringRd m) (K p) (kcell p) := by
  unfold invAll; exact sep_elim_left.trans (bigSep_elim (Finset.mem_univ p))
theorem reached_of (K : Dev nD × Fin 13 → ℕ) (p : Dev nD × Fin 13) : invAll m K ⊢ reached ER (kcell p) 0 := by
  unfold invAll; exact sep_elim_right.trans (bigSep_elim (Finset.mem_univ p))
theorem inv_bar (K) (c : Dev nD) : invAll m K ⊢ cellInv ER (ringRd m) (K (c, 0)) (barCell c) := inv_of m K (c, 0)
theorem inv_send (K) (c : Dev nD) (i) : invAll m K ⊢ cellInv ER (ringRd m) (K (c, iS i)) (sendCell c i) := kcell_send c i ▸ inv_of m K (c, iS i)
theorem inv_recv (K) (c : Dev nD) (i) : invAll m K ⊢ cellInv ER (ringRd m) (K (c, iR i)) (recvCell c i) := kcell_recv c i ▸ inv_of m K (c, iR i)
theorem reached_bar (K) (c : Dev nD) : invAll m K ⊢ reached ER (barCell c) 0 := reached_of m K (c, 0)
theorem reached_send (K) (c : Dev nD) (i) : invAll m K ⊢ reached ER (sendCell c i) 0 := kcell_send c i ▸ reached_of m K (c, iS i)
theorem reached_recv (K) (c : Dev nD) (i) : invAll m K ⊢ reached ER (recvCell c i) 0 := kcell_recv c i ▸ reached_of m K (c, iR i)

end Cert.KIProof

end
-- ==== Proof.KIBody.lean ====
/-
The rules for the kernel's remote steps at the protocol's cells.
-/
module

public import proofs.«01_k».proof.Proof.KICommon

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

abbrev 𝒱₀ : Variants := Variants.none

theorem rev_rev (j : Fin 3) : j.rev.rev = j := Fin.rev_rev j

theorem mem_bar (c : Dev nD) (d : Fin 3) : d ∈ (ringRd (F := F) m).duties (barCell c) 0 := by
  rw [duties_bar]; revert d; decide
theorem sendPay_ij (c : Dev nD) (b : Fin 2) (j : Fin 3) : sendPay m c (ij b j) = stPts c b (shr j) (stC m c) := by
  revert b j; intro b j; fin_cases b <;> fin_cases j <;> rfl
theorem recvPay_ij (c : Dev nD) (b : Fin 2) (j : Fin 3) : recvPay m c (ij b j) = cmPts c j b (cmC m c) := by
  revert b j; intro b j; fin_cases b <;> fin_cases j <;> rfl

section Steps
variable (c n : Dev nD) (W : Waits sig Bool)

/-- Signal `j`, to `fwd c j`'s barrier cell: hands over `c`'s landing slot `2 - j`. -/
theorem wp_sig {α : Type} {Q : α → sProp 𝕄} {k : PUnit → Prog (TpuEff nD τ sig (Elt F) Λ₀ .tc) α} (j : Fin 3) (hn : n = fwd c j) (O : CellTallies nD τ sig Bool) {z : ℤ} (hz : z = ((1 : ℕ) : ℤ)) :
    iprop(invAll m K ∗ owes (c : Thread nD τ) (O + dB c j) W ∗ dutyTok ER (barCell (fwd c j)) 0 j.rev
        ∗ (∃ f, cmPts (F := F) c j.rev 0 f) ∗ (∃ f, cmPts (F := F) c j.rev 1 f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, Proc.tc) barS z) k) Q) := by
  subst hz
  subst hn
  iintro ⟨#Hinv, HO, Htok, Hc0, Hc1⟩ Hk
  iapply (Rounds.wp_signal 𝒱₀ ER (ringRd m) (c : Thread nD τ) none (dst := (fwd c j : Thread nD τ)) (κ := K (fwd c j, 0))
      (d := j.rev) (mem_bar m (fwd c j) j.rev) (amount_bar m (fwd c j) j.rev) true O rfl) $$ [HO Htok Hc0 Hc1] [Hk]
  · isplitr; · iapply (inv_bar m K (fwd c j)); iexact Hinv
    isplitl [HO]; · iexact HO
    isplitl [Htok]; · iexact Htok
    isplitl [Hc0 Hc1]
    · rw [payload_bar]; unfold barPay; rw [fwd_rev]
      isplitl [Hc0]; · iexact Hc0
      isplitl [Hc1]; · iexact Hc1
      isplitr; · iapply (reached_recv m K c _); iexact Hinv
      iapply (reached_recv m K c _); iexact Hinv
    · iapply (reached_bar m K (fwd c j)); iexact Hinv
  · iexact Hk

/-- The wait for the three signals: the three landing slots `c` will copy into. -/
theorem wp_barwait {α : Type} {Q : α → sProp 𝕄} {k : PUnit → Prog (TpuEff nD τ sig (Elt F) Λ₀ .tc) α} (O : CellTallies nD τ sig Bool) (hO : Above 2 O) :
    iprop(invAll m K ∗ levAts L lv ∗ cred (tallyAt (barCell c) true 3) ∗ owes (c : Thread nD τ) O W ∗ atPos ER (barCell c) 0 ∅ 0)
      ⊢ iprop(((owes (c : Thread nD τ) O (insert (SemLoc.reg barS, true) W) ∗ atPos ER (barCell c) 1 ∅ 0
              ∗ barPay (F := F) c 0 ∗ barPay c 1 ∗ barPay c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#Hinv, #Hlev, Hc, HO, Hat⟩ Hk
  iapply (Rounds.wp_wait_rest_token 𝒱₀ ER (ringRd m) (c : Thread nD τ) none (κ := K (c, 0))
      (wpE_semWait_eq 𝒱₀ (c : Thread nD τ) none Set.univ) (Set.mem_univ _) true (O := O) (W := W) (R := 0) (m := 0) (T := ∅)
      ((Nat.zero_add _).trans (expect_bar m c).symm)) $$ [Hc HO Hat] [Hk]
  · isplitr; · iapply (inv_bar m K c); iexact Hinv
    isplitl [Hc]; · iexact Hc
    isplitl [HO]; · iexact HO
    isplitr; · iapply (mayWait_bar c O hO); iexact Hlev
    iexact Hat
  · iintro ⟨HO, Hat, -, Hpay⟩
    ihave Hp := (Entails.of_eq (rest_bar m c)) $$ Hpay
    iapply Hk
    isplitl [HO]; · iexact HO
    isplitl [Hat]; · iexact Hat
    iexact Hp

theorem stRow_emb (b : Fin 2) (x : S2x4096.Idx) :
    (stRow b).view.emb x = ix2 ⟨2 * b.val + (x 0).val, by have h0 : (x 0).val < 2 := (x 0).isLt; omega⟩ (x 1) := by
  funext a
  match a with
  | ⟨0, _⟩ => exact Fin.ext (show 2 * b.val + 1 * (x 0).val = 2 * b.val + (x 0).val by omega)
  | ⟨1, _⟩ => exact Fin.ext (show 0 + 1 * (x 1).val = (x 1).val by omega)
theorem cmRow_emb (j : Fin 3) (b : Fin 2) (x : S2x4096.Idx) :
    (cmRow j b).view.emb x = ix3 j ⟨2 * b.val + (x 0).val, by have h0 : (x 0).val < 2 := (x 0).isLt; omega⟩ (x 1) := by
  have h : (cmRow j b).view.emb x = (Rect.unit (s := S3x4x4096) ![j.val, 2 * b.val, 0] S1x2x4096.size (inb_cm j b)).emb
    (Shape.reshapeEquiv (s := S1x2x4096) (s' := S2x4096) rfl x) := rfl
  rw [h, show Shape.reshapeEquiv (s := S1x2x4096) (s' := S2x4096) rfl x = ix3 (⟨0, Nat.one_pos⟩ : Fin 1) (x 0) (x 1) from
    (congrArg _ (eq_ix2 x)).trans (reshapeEquiv_ix2_1ab _ (x 0) (x 1))]
  funext a
  match a with
  | ⟨0, _⟩ => exact Fin.ext (show j.val + 1 * 0 = j.val by omega)
  | ⟨1, _⟩ => exact Fin.ext (show 2 * b.val + 1 * (x 0).val = 2 * b.val + (x 0).val by omega)
  | ⟨2, _⟩ => exact Fin.ext (show 0 + 1 * (x 1).val = (x 1).val by omega)

/-- What the copy of rows of `c` leaves in slot `j` of `fwd c j` is that slot's final contents there. -/
theorem landed_eq (b : Fin 2) (j : Fin 3) (fd : S3x4x4096.Idx → F .f32) :
    ∀ i ∈ (cmRow j b).view.set, (cmRow j b).view.write (Elt F) fd ((stRow b).view.read (Elt F) (stC m c)) Finset.univ i = cmC m (fwd c j) i := by
  intro i hi
  obtain ⟨x, -, rfl⟩ := Finset.mem_map.mp hi
  refine (View.write_emb_of_mem _ _ (Finset.mem_univ x)).trans ?_
  show stC m c ((stRow b).view.emb x) = cmC m (fwd c j) ((cmRow j b).view.emb x)
  rw [cmRow_emb]
  unfold cmC
  show _ = stC m (bwd (fwd c j) j) _
  rw [bwd_fwd, stRow_emb]; rfl

theorem amount_cm (j : Fin 3) (b : Fin 2) (q : DmaSem sig) : (cmRow j b).view.amount (.dma q) = N := by fin_cases j <;> fin_cases b <;> rfl
set_option maxHeartbeats 1000000 in
/-- Copy `j` of batch entry `b`: the statistics rows into slot `j` of `fwd c j`. -/
theorem wp_copy {α : Type} {Q : α → sProp 𝕄} {k : PUnit → Prog (TpuEff nD τ sig (Elt F) Λ₀ .tc) α} (b : Fin 2) (j : Fin 3) (hn : n = fwd c j) (O : CellTallies nD τ sig Bool)
    {hsc : (cmRow j b : Memref sig (Dev.tc n : Thread nD τ).2.kind .vmem S2x4096 .f32).view.ref.isScScratch = false}
    {hsrc : (stRow b).view.WordExact} {hdst : (cmRow j b).view.WordExact}
    {hsem : DmaTarget.Typed .vmem (.dma (recvQ (ij b j))) (.remote (Dev.tc n : Thread nD τ) (cmRow j b) (.dma (sendQ (ij b j))) hsc)} :
    iprop(invAll m K ∗ stPts c b (shr j) (stC m c) ∗ (∃ f, cmPts (F := F) (fwd c j) j b f)
        ∗ owes (c : Thread nD τ) (O + dR c b j) W
        ∗ dutyTok ER (sendCell c (ij b j)) 0 0 ∗ dutyTok ER (recvCell (fwd c j) (ij b j)) 0 0)
      ⊢ iprop(((cred (tallyAt (sendCell c (ij b j)) false N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stRow b) (.remote (Dev.tc n : Thread nD τ) (cmRow j b) (.dma (sendQ (ij b j))) hsc) (.dma (recvQ (ij b j))) hsrc hdst hsem) k) Q) := by
  subst hn
  iintro ⟨#Hinv, Hst, ⟨%fn, Hcm⟩, HO, Ht1, Ht2⟩ Hk
  unfold stPts cmPts
  iapply (Rounds.wp_send_pointsTo 𝒱₀ ER (ringRd m) (c : Thread nD τ) none (κ₁ := K (c, iS (ij b j))) (κ₂ := K (fwd c j, iR (ij b j)))
    (r₁ := 0) (r₂ := 0) (d₁ := 0) (d₂ := 0) (fd := fn)
    (by rw [duties_send]; exact Finset.mem_singleton_self _) (by rw [duties_recv]; exact Finset.mem_singleton_self _)
    true false N (amount_cm j b _) (amount_send m c (ij b j) 0) (amount_recv m (fwd c j) (ij b j) 0) O rfl (W := W)
    (by rw [payload_send, sendPay_ij]; exact BI.Entails.refl _)
    (by rw [payload_recv, recvPay_ij]; exact Entails.of_eq (pointsTo_congr (landed_eq m c b j fn)))) $$ [Hst Hcm HO Ht1 Ht2] [Hk]
  · isplitr; · iapply (inv_send m K c (ij b j)); iexact Hinv
    isplitr; · iapply (inv_recv m K (fwd c j) (ij b j)); iexact Hinv
    isplitl [Hst]; · iexact Hst
    isplitl [Hcm]; · iexact Hcm
    isplitl [HO]; · iexact HO
    isplitl [Ht1]; · iexact Ht1
    isplitr; · iapply (reached_send m K c (ij b j)); iexact Hinv
    isplitl [Ht2]; · iexact Ht2
    iapply (reached_recv m K (fwd c j) (ij b j)); iexact Hinv
  · iexact Hk

/-- The wait on receive cell `i`, nothing owed: the landed rows, and the cell's counter back at zero. -/
theorem wp_recvwait {α : Type} {Q : α → sProp 𝕄} {k : PUnit → Prog (TpuEff nD τ sig (Elt F) Λ₀ .tc) α} (i : Fin 6) {src : Memref sig .tc .vmem S2x4096 .f32} {dst : Memref sig .tc .vmem S2x4096 .f32}
    (hc : dst.view.dmaCredit = N)
    {hsrc : src.view.WordExact} {hdst : dst.view.WordExact} :
    iprop(invAll m K ∗ cred (tallyAt (recvCell c i) true N) ∗ owes (c : Thread nD τ) 0 W ∗ atPos ER (recvCell c i) 0 ∅ 0)
      ⊢ iprop(((owes (c : Thread nD τ) 0 (insert (SemLoc.dma (recvQ i), true) W) ∗ semVal (recvCell c i) 0 ∗ recvPay m c i)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ i) src dst hsrc hdst) k) Q) := by
  have hk : 0 + dst.view.dmaCredit = (ringRd (F := F) m).expect (recvCell c i) 0 := (Nat.zero_add _).trans (hc.trans (expect_recv m c i).symm)
  iintro ⟨#Hinv, Hc, HO, Hat⟩ Hk
  iapply (Rounds.wp_wait_rest_token 𝒱₀ ER (ringRd m) (c : Thread nD τ) none (κ := K (c, iR i))
      (wpE_waitDma2_eq 𝒱₀ (c : Thread nD τ) none Set.univ) (Set.mem_univ _) true (O := 0) (W := W) (R := 0) (m := 0) (T := ∅)
      hk) $$ [Hc HO Hat] [Hk]
  · isplitr; · iapply (inv_recv m K c i); iexact Hinv
    isplitl [Hc]; · rw [hc]; iexact Hc
    isplitl [HO]; · iexact HO
    isplitr; · rw [MayWait_zero]; iempintro
    iexact Hat
  · iintro ⟨HO, Hat, -, Hpay⟩
    ihave Hp := (Entails.of_eq (rest_recv m c i)) $$ Hpay
    imod (Rounds.cell_close ER (ringRd m) (Set.mem_univ (K (c, iR i))) (fun h => h) (R := 0 + 1) (duties_later m (recvCell c i))) $$ [Hat] with Hz
    · isplitr; · iapply (inv_recv m K c i); iexact Hinv
      iexact Hat
    iapply Hk
    isplitl [HO]; · iexact HO
    isplitl [Hz]; · iexact Hz
    iexact Hp

/-- The wait on send cell `i`, nothing owed: the share of the rows read, and the cell's counter back at zero. -/
theorem wp_sendwait {α : Type} {Q : α → sProp 𝕄} {k : PUnit → Prog (TpuEff nD τ sig (Elt F) Λ₀ .tc) α} (i : Fin 6) {src dst : Memref sig .tc .vmem S2x4096 .f32} (hc : dst.view.dmaCredit = N)
    {hsrc : src.view.WordExact} {hdst : dst.view.WordExact} :
    iprop(invAll m K ∗ cred (tallyAt (sendCell c i) false N) ∗ owes (c : Thread nD τ) 0 W ∗ atPos ER (sendCell c i) 0 ∅ 0)
      ⊢ iprop(((owes (c : Thread nD τ) 0 (insert (SemLoc.dma (sendQ i), false) W) ∗ semVal (sendCell c i) 0 ∗ sendPay m c i)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ i) src dst hsrc hdst) k) Q) := by
  have hk : 0 + dst.view.dmaCredit = (ringRd (F := F) m).expect (sendCell c i) 0 := (Nat.zero_add _).trans (hc.trans (expect_send m c i).symm)
  iintro ⟨#Hinv, Hc, HO, Hat⟩ Hk
  iapply (Rounds.wp_wait_rest_token 𝒱₀ ER (ringRd m) (c : Thread nD τ) none (κ := K (c, iS i))
      (wpE_waitDma2_eq 𝒱₀ (c : Thread nD τ) none Set.univ) (Set.mem_univ _) false (O := 0) (W := W) (R := 0) (m := 0) (T := ∅)
      hk) $$ [Hc HO Hat] [Hk]
  · isplitr; · iapply (inv_send m K c i); iexact Hinv
    isplitl [Hc]; · rw [hc]; iexact Hc
    isplitl [HO]; · iexact HO
    isplitr; · rw [MayWait_zero]; iempintro
    iexact Hat
  · iintro ⟨HO, Hat, -, Hpay⟩
    ihave Hp := (Entails.of_eq (rest_send m c i)) $$ Hpay
    imod (Rounds.cell_close ER (ringRd m) (Set.mem_univ (K (c, iS i))) (fun h => h) (R := 0 + 1) (duties_later m (sendCell c i))) $$ [Hat] with Hz
    · isplitr; · iapply (inv_send m K c i); iexact Hinv
      iexact Hat
    iapply Hk
    isplitl [HO]; · iexact HO
    isplitl [Hz]; · iexact Hz
    iexact Hp

end Steps

/-! ## The buffers cut by rows -/

omit [FloatOps F] in
theorem mem_stRow (b : Fin 2) (i : S4x4096.Idx) : i ∈ (stRow b).view.set ↔ (i 0).val / 2 = b.val := by
  have h0 : (i 0).val < 4 := (i 0).isLt
  constructor
  · intro hi
    obtain ⟨x, -, rfl⟩ := Finset.mem_map.mp hi
    have hx : (x 0).val < 2 := (x 0).isLt
    rw [stRow_emb]
    show (2 * b.val + (x 0).val) / 2 = b.val
    omega
  · intro h
    refine Finset.mem_map.mpr ⟨ix2 ⟨(i 0).val % 2, Nat.mod_lt _ (by decide)⟩ (i 1), Finset.mem_univ _, ?_⟩
    rw [stRow_emb]
    funext a
    match a with
    | ⟨0, _⟩ => exact Fin.ext (show 2 * b.val + (i 0).val % 2 = (i 0).val by omega)
    | ⟨1, _⟩ => rfl
omit [FloatOps F] in
theorem mem_cmRow (j : Fin 3) (b : Fin 2) (i : S3x4x4096.Idx) : i ∈ (cmRow j b).view.set ↔ (i 0).val = j.val ∧ (i 1).val / 2 = b.val := by
  have h1 : (i 1).val < 4 := (i 1).isLt
  constructor
  · intro hi
    obtain ⟨x, -, rfl⟩ := Finset.mem_map.mp hi
    have hx : (x 0).val < 2 := (x 0).isLt
    rw [cmRow_emb]
    refine ⟨rfl, ?_⟩
    show (2 * b.val + (x 0).val) / 2 = b.val
    omega
  · rintro ⟨h, h'⟩
    refine Finset.mem_map.mpr ⟨ix2 ⟨(i 1).val % 2, Nat.mod_lt _ (by decide)⟩ (i 2), Finset.mem_univ _, ?_⟩
    rw [cmRow_emb]
    funext a
    match a with
    | ⟨0, _⟩ => exact Fin.ext h.symm
    | ⟨1, _⟩ => exact Fin.ext (show 2 * b.val + (i 1).val % 2 = (i 1).val by omega)
    | ⟨2, _⟩ => rfl

/-- The statistics buffer is its two pairs of rows. -/
theorem st_rows (c : Dev nD) (q : PosShare TreeShare) (f : S4x4096.Idx → F .f32) :
    (stM.view.loc (c : Thread nD τ) ↦{q} f : sProp 𝕄) = iprop(stPts c 0 q f ∗ stPts c 1 q f) := by
  have hU : (Finset.univ : Finset S4x4096.Idx) = (Finset.univ : Finset (Fin 2)).biUnion fun b => (stRow b).view.set :=
    (Finset.eq_univ_of_forall fun i => Finset.mem_biUnion.mpr
      ⟨⟨(i 0).val / 2, by have h0 : (i 0).val < 4 := (i 0).isLt; omega⟩, Finset.mem_univ _, (mem_stRow _ i).mpr rfl⟩).symm
  have h := pointsTo_biUnion (Ix := Bool) (Name := ℕ) (U := UU) (Lvl := ℕ) (Val := Elt F) (ℓ := stM.view.loc (c : Thread nD τ)) (q := q) (f := f)
    (Finset.univ : Finset (Fin 2)) (fun b => (stRow b).view.set) (fun t _ t' _ hne => Finset.disjoint_left.mpr fun i hi hi' =>
      hne (Fin.ext (((mem_stRow t i).mp hi).symm.trans ((mem_stRow t' i).mp hi'))))
  refine (congrArg (fun S => (stM.view.loc (c : Thread nD τ) ↦[S]{q} f : sProp 𝕄)) hU).trans (h.trans ?_)
  rw [bigSep_univ_eq_bigSepL [0, 1] (by decide) (by decide), bigSepL_cons_cons, bigSepL_singleton]
  rfl

/-- The landing buffer is its six pairs of rows. -/
theorem cm_rows (c : Dev nD) (f : S3x4x4096.Idx → F .f32) :
    (cmM.view.loc (c : Thread nD τ) ↦{fullShare} f : sProp 𝕄)
      = iprop((cmPts c 0 0 f ∗ cmPts c 0 1 f) ∗ (cmPts c 1 0 f ∗ cmPts c 1 1 f) ∗ (cmPts c 2 0 f ∗ cmPts c 2 1 f)) := by
  have hU : (Finset.univ : Finset S3x4x4096.Idx) = (Finset.univ : Finset (Fin 3 × Fin 2)).biUnion fun p => (cmRow p.1 p.2).view.set :=
    (Finset.eq_univ_of_forall fun i => Finset.mem_biUnion.mpr
      ⟨(i 0, ⟨(i 1).val / 2, by have h0 : (i 1).val < 4 := (i 1).isLt; omega⟩), Finset.mem_univ _, (mem_cmRow _ _ i).mpr ⟨rfl, rfl⟩⟩).symm
  have h := pointsTo_biUnion (Ix := Bool) (Name := ℕ) (U := UU) (Lvl := ℕ) (Val := Elt F) (ℓ := cmM.view.loc (c : Thread nD τ)) (q := fullShare) (f := f)
    (Finset.univ : Finset (Fin 3 × Fin 2)) (fun p => (cmRow p.1 p.2).view.set) (fun t _ t' _ hne => Finset.disjoint_left.mpr fun i hi hi' =>
      hne (Prod.ext (Fin.ext (((mem_cmRow _ _ i).mp hi).1.symm.trans ((mem_cmRow _ _ i).mp hi').1))
        (Fin.ext (((mem_cmRow _ _ i).mp hi).2.symm.trans ((mem_cmRow _ _ i).mp hi').2))))
  refine (congrArg (fun S => (cmM.view.loc (c : Thread nD τ) ↦[S]{fullShare} f : sProp 𝕄)) hU).trans (h.trans ?_)
  rw [bigSep_univ_prod, bigSep_univ_eq_bigSepL [0, 1, 2] (by decide) (by decide), bigSepL_cons_cons, bigSepL_cons_cons, bigSepL_singleton]
  simp only [bigSep_univ_eq_bigSepL [(0 : Fin 2), 1] (by decide) (by decide), bigSepL_cons_cons, bigSepL_singleton]
  rfl

/-- A pair of statistics rows in the shares the three copies read and the one kept. -/
theorem st_shares (c : Dev nD) (b : Fin 2) (f : S4x4096.Idx → F .f32) :
    (stPts c b fullShare f : sProp 𝕄) ⊣⊢ iprop((stPts c b (shr 0) f ∗ stPts c b (shr 1) f) ∗ stPts c b (shr 2) f ∗ stPts c b shrKept f) := by
  have h := fun q : PosShare TreeShare => pointsTo_share (Ix := Bool) (Name := ℕ) (U := UU) (Lvl := ℕ) (Val := Elt F) (ℓ := (stRow b).view.loc (c : Thread nD τ))
    (I := (stRow b).view.set) (f := f) (q.mem_left_op_right)
  constructor
  · exact (h fullShare).1.trans (BI.sep_mono (h _).1 (h _).1)
  · exact (BI.sep_mono (h _).2 (h _).2).trans (h fullShare).2

/-! ## What the body starts from -/

theorem inb_ld (i : Fin 8) : ∀ a, (![i.val] : Fin 1 → Nat) a + S1.size a ≤ S8.size a := by revert i; decide
theorem inb_cp (i : Fin 2) : ∀ a, (![i.val] : Fin 1 → Nat) a + S1.size a ≤ S2.size a := by revert i; decide
abbrev ldQ (i : Fin 8) : DmaSem sig := ((cc0_scratch5.slice (Rect.unit (s := S8) ![i.val] S1.size (inb_ld i))).squeeze S_ squeezes_S1_S_).sem
abbrev cpQ (i : Fin 2) : DmaSem sig := ((cc0_scratch8.slice (Rect.unit (s := S2) ![i.val] S1.size (inb_cp i))).squeeze S_ squeezes_S1_S_).sem

/-- The counters of the device's own transfers, at zero: eight loads, two copies out. -/
def ownZ (c : Dev nD) : sProp 𝕄 :=
  iprop(semVal ((c : Thread nD τ), .dma (ldQ 0)) 0 ∗ semVal ((c : Thread nD τ), .dma (ldQ 1)) 0 ∗ semVal ((c : Thread nD τ), .dma (ldQ 2)) 0
    ∗ semVal ((c : Thread nD τ), .dma (ldQ 3)) 0 ∗ semVal ((c : Thread nD τ), .dma (ldQ 4)) 0 ∗ semVal ((c : Thread nD τ), .dma (ldQ 5)) 0
    ∗ semVal ((c : Thread nD τ), .dma (ldQ 6)) 0 ∗ semVal ((c : Thread nD τ), .dma (ldQ 7)) 0
    ∗ semVal ((c : Thread nD τ), .dma (cpQ 0)) 0 ∗ semVal ((c : Thread nD τ), .dma (cpQ 1)) 0)

/-- For each of the six copies, by `b` and `j`. -/
def six (Φ : Fin 2 → Fin 3 → sProp 𝕄) : sProp 𝕄 := iprop(Φ 0 0 ∗ Φ 0 1 ∗ Φ 0 2 ∗ Φ 1 0 ∗ Φ 1 1 ∗ Φ 1 2)

/-- The positions, tokens and credit device `c` starts from. -/
def lin (c : Dev nD) : sProp 𝕄 :=
  iprop(atPos ER (barCell c) 0 ∅ 0 ∗ six (fun b j => atPos ER (sendCell c (ij b j)) 0 ∅ 0) ∗ six (fun b j => atPos ER (recvCell c (ij b j)) 0 ∅ 0)
    ∗ dutyTok ER (barCell (fwd c 0)) 0 (0 : Fin 3).rev ∗ dutyTok ER (barCell (fwd c 1)) 0 (1 : Fin 3).rev ∗ dutyTok ER (barCell (fwd c 2)) 0 (2 : Fin 3).rev
    ∗ six (fun b j => dutyTok ER (sendCell c (ij b j)) 0 0) ∗ six (fun b j => dutyTok ER (recvCell (fwd c j) (ij b j)) 0 0))
def crd (c : Dev nD) : sProp 𝕄 :=
  iprop(cred (tallyAt (barCell c) true 3) ∗ six (fun b j => cred (tallyAt (recvCell c (ij b j)) true N)))

/-- The kernel's scratch buffers, holding anything. -/
def scr (c : Dev nD) : sProp 𝕄 :=
  iprop((∃ f : S8x512x512.Idx → F .f32, landM.view.loc (c : Thread nD τ) ↦{fullShare} f) ∗ (∃ f : S2x4096x512.Idx → F .bf16, xbM.view.loc (c : Thread nD τ) ↦{fullShare} f)
    ∗ (∃ f : S4x4096.Idx → F .f32, stM.view.loc (c : Thread nD τ) ↦{fullShare} f) ∗ (∃ f : S3x4x4096.Idx → F .f32, cmM.view.loc (c : Thread nD τ) ↦{fullShare} f)
    ∗ (∃ f : S2x512x512.Idx → F .bf16, sgM.view.loc (c : Thread nD τ) ↦{fullShare} f))

/-- The time embedding and the two weight blocks of device `c`. -/
abbrev T (c : Dev nD) : S2x128.Idx → F .bf16 := m ((c : Thread nD τ).loc main_arg1)
abbrev Wsc (c : Dev nD) : S128x512.Idx → F .bf16 := m ((c : Thread nD τ).loc main_arg2)
abbrev Wsh (c : Dev nD) : S128x512.Idx → F .bf16 := m ((c : Thread nD τ).loc main_arg3)
abbrev tM : Memref sig .tc .vmem S2x128 .bf16 := Memref.whole cc0_stg0_0
abbrev scM : Memref sig .tc .vmem S128x512 .bf16 := Memref.whole cc0_stg1_0
abbrev shM : Memref sig .tc .vmem S128x512 .bf16 := Memref.whole cc0_stg2_0
def args (c : Dev nD) : sProp 𝕄 :=
  iprop((xM.view.loc (c : Thread nD τ) ↦{fullShare} X m c) ∗ (tM.view.loc (c : Thread nD τ) ↦{fullShare} T m c)
    ∗ (scM.view.loc (c : Thread nD τ) ↦{fullShare} Wsc m c) ∗ (shM.view.loc (c : Thread nD τ) ↦{fullShare} Wsh m c))

/-- What the body starts from. -/
def bodyPre (c : Dev nD) (W : Waits sig Bool) : sProp 𝕄 :=
  iprop(invAll m K ∗ levAts L lv ∗ lin c ∗ crd c ∗ ownZ c ∗ scr c ∗ args m c
    ∗ (∃ f : S2x4096x512.Idx → F .bf16, oM.view.loc (c : Thread nD τ) ↦{fullShare} f) ∗ owes (c : Thread nD τ) (O₀ c) W)

/-- The kernel body at whole memrefs. -/
abbrev body : Prog (TpuEff nD τ sig (Elt F) Λ₀ .tc) PUnit :=
  cc0_body (F := F) xM (Memref.isWhole_whole _) tM (Memref.isWhole_whole _) scM (Memref.isWhole_whole _) shM (Memref.isWhole_whole _) oM (Memref.isWhole_whole _)
    landM (Memref.isWhole_whole _) xbM (Memref.isWhole_whole _) stM (Memref.isWhole_whole _) cmM (Memref.isWhole_whole _) sgM (Memref.isWhole_whole _)
    cc0_scratch5 cc0_scratch6 cc0_scratch7 cc0_scratch8

end Cert.KIProof

end
-- ==== Proof.KIVals.lean ====
/-
What the loads read and what the stores leave: chunks of the input, rows of the statistics, rows of the rounded copy.
-/
module

public import proofs.«01_k».proof.Proof.KIBody
public import Idealize.ShloMosaic.Lib.WritesUnit

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

/-! ## Slabs of 512 rows -/

section Slab

variable {κ : Kind} {sp : Space} {P R : ℕ} {e : EltTy} (M : Memref sig κ sp ⟨3, ![P, R, 512]⟩ e)

abbrev slab (p q : ℕ) (h : ∀ a, (![p, q, 0] : Fin 3 → ℕ) a + S1x512x512.size a ≤ (⟨3, ![P, R, 512]⟩ : Shape).size a)
    (h' : ∀ a, (Rect.unit (s := ⟨3, ![P, R, 512]⟩) ![p, q, 0] S1x512x512.size h).stride a = 1) (h'' : Shape.Squeezes S1x512x512 S512x512) :
    Memref sig κ sp S512x512 e :=
  (M.slice (Rect.unit (s := ⟨3, ![P, R, 512]⟩) ![p, q, 0] S1x512x512.size h) h').squeeze S512x512 h''

theorem slab_emb (p q : ℕ) (h h' h'') (y : S512x512.Idx) :
    (slab M p q h h' h'').view.emb y
      = M.view.emb (ix3 (⟨p, h 0⟩ : Fin P) (⟨q + (y 0).val, by have h1 : q + 512 ≤ R := h 1; have h0 : (y 0).val < 512 := (y 0).isLt; omega⟩ : Fin R) (y 1)) := by
  have e1 : (slab M p q h h' h'').view.emb y = M.view.emb ((Rect.unit (s := ⟨3, ![P, R, 512]⟩) ![p, q, 0] S1x512x512.size h).emb
    (Shape.reshapeEquiv (s := S1x512x512) (s' := S512x512) h''.numel_eq y)) := rfl
  rw [e1, show Shape.reshapeEquiv (s := S1x512x512) (s' := S512x512) h''.numel_eq y = ix3 (⟨0, Nat.one_pos⟩ : Fin 1) (y 0) (y 1) from
    (congrArg _ (eq_ix2 y)).trans (reshapeEquiv_ix2_1ab _ (y 0) (y 1))]
  congr 1
  funext a
  match a with
  | ⟨0, _⟩ => exact Fin.ext (show p + 1 * 0 = p by omega)
  | ⟨1, _⟩ => exact Fin.ext (show q + 1 * (y 0).val = q + (y 0).val by omega)
  | ⟨2, _⟩ => exact Fin.ext (show 0 + 1 * (y 1).val = (y 1).val by omega)

/-- A slab written, read back through the memref. -/
theorem slab_write (p q : ℕ) (h h' h'') (g : M.view.ty.Contents (Elt F)) (v : S512x512.Idx → Elt F e) (i : (⟨3, ![P, R, 512]⟩ : Shape).Idx) :
    M.view.read (Elt F) ((slab M p q h h' h'').view.write (Elt F) g v Finset.univ) i
      = if hi : (i 0).val = p ∧ q ≤ (i 1).val ∧ (i 1).val < q + 512 then v (ix2 (⟨(i 1).val - q, by omega⟩ : Fin 512) (i 2)) else M.view.read (Elt F) g i := by
  split
  · next hi =>
    have hy : M.view.emb i = (slab M p q h h' h'').view.emb (ix2 (⟨(i 1).val - q, by omega⟩ : Fin 512) (i 2)) := by
      rw [slab_emb]
      congr 1
      funext a
      match a with
      | ⟨0, _⟩ => exact Fin.ext hi.1
      | ⟨1, _⟩ => exact Fin.ext (show (i 1).val = q + ((i 1).val - q) by omega)
      | ⟨2, _⟩ => rfl
    rw [View.read_apply, hy, ← View.read_apply (v := (slab M p q h h' h'').view), View.read_write_univ]
  · next hi =>
    rw [View.read_apply, View.read_apply, View.write_of_not_mem]
    rw [View.setOn_univ]
    intro hm
    obtain ⟨y, -, hy⟩ := Finset.mem_map.mp hm
    rw [slab_emb] at hy
    have hy' := M.view.emb.injective hy
    exact hi ⟨by rw [← hy']; rfl, by rw [← hy']; exact Nat.le_add_right _ _, by rw [← hy']; exact Nat.add_lt_add_left (y 0).isLt _⟩

/-- A slab read. -/
theorem slab_read (p q : ℕ) (h h' h'') (g : M.view.ty.Contents (Elt F)) (y : S512x512.Idx) :
    (slab M p q h h' h'').view.read (Elt F) g y
      = M.view.read (Elt F) g (ix3 (⟨p, h 0⟩ : Fin P) (⟨q + (y 0).val, by have h1 : q + 512 ≤ R := h 1; have h0 : (y 0).val < 512 := (y 0).isLt; omega⟩ : Fin R) (y 1)) := by
  rw [View.read_apply, View.read_apply, slab_emb]

/-- A load of one slab. -/
theorem slab_load (p q : ℕ) (h : ∀ a, (![p, q, 0] : Fin 3 → ℕ) a + S1x512x512.size a ≤ (⟨3, ![P, R, 512]⟩ : Shape).size a) (g : M.view.ty.Contents (Elt F)) (y : S1x512x512.Idx) :
    M.view.readAt (Elt F) (Rect.unit (s := ⟨3, ![P, R, 512]⟩) ![p, q, 0] S1x512x512.size h).toLoadRect g y
      = M.view.read (Elt F) g (ix3 (⟨p, h 0⟩ : Fin P) (⟨q + (y 1).val, by have h1 : q + 512 ≤ R := h 1; have h0 : (y 1).val < 512 := (y 1).isLt; omega⟩ : Fin R) (y 2)) := by
  show M.view.read (Elt F) g ((Rect.unit (s := ⟨3, ![P, R, 512]⟩) ![p, q, 0] S1x512x512.size h).emb y) = _
  congr 1
  funext a
  match a with
  | ⟨0, _⟩ => exact Fin.ext (show p + 1 * (y 0).val = p by have h0 : (y 0).val < 1 := (y 0).isLt; omega)
  | ⟨1, _⟩ => exact Fin.ext (show q + 1 * (y 1).val = q + (y 1).val by omega)
  | ⟨2, _⟩ => exact Fin.ext (show 0 + 1 * (y 2).val = (y 2).val by omega)

/-- A slab just written, loaded. -/
theorem slab_hit (p q : ℕ) (h h' h'' h₁) (g : M.view.ty.Contents (Elt F)) (v : S512x512.Idx → Elt F e) :
    M.view.readAt (Elt F) (Rect.unit (s := ⟨3, ![P, R, 512]⟩) ![p, q, 0] S1x512x512.size h₁).toLoadRect ((slab M p q h h' h'').view.write (Elt F) g v Finset.univ)
      = fun y : S1x512x512.Idx => v (ix2 (y 1) (y 2)) := by
  funext y
  rw [slab_load, slab_write, dif_pos ⟨rfl, Nat.le_add_right _ _, Nat.add_lt_add_left (y 1).isLt _⟩]
  congr 1
  funext a
  match a with
  | ⟨0, _⟩ => exact Fin.ext (Nat.add_sub_cancel_left _ _)
  | ⟨1, _⟩ => rfl

/-- A slab of another plane written, loaded. -/
theorem slab_skip (p p' q q' : ℕ) (hne : p ≠ p') (h h' h'' h₁) (g : M.view.ty.Contents (Elt F)) (v : S512x512.Idx → Elt F e) :
    M.view.readAt (Elt F) (Rect.unit (s := ⟨3, ![P, R, 512]⟩) ![p, q, 0] S1x512x512.size h₁).toLoadRect ((slab M p' q' h h' h'').view.write (Elt F) g v Finset.univ)
      = M.view.readAt (Elt F) (Rect.unit (s := ⟨3, ![P, R, 512]⟩) ![p, q, 0] S1x512x512.size h₁).toLoadRect g := by
  funext y
  rw [slab_load, slab_load, slab_write, dif_neg (fun hi => hne hi.1)]

end Slab

/-- What a load's copy brings is the chunk. -/
theorem chunk_read (c : Dev nD) (b : Fin 2) (k : Fin 8) (p q : ℕ) (hp : p = b.val) (hq : q = 512 * k.val) (h h' h'') :
    (fun y : S1x512x512.Idx => ReadAs.same.apply ((slab xM p q h h' h'').view.read (Elt F) (m (c.tc.loc main_arg0))) (ix2 (y 1) (y 2))) = chunk m c b k := by
  subst hp hq
  funext y
  show (slab xM _ _ h h' h'').view.read (Elt F) (m (c.tc.loc main_arg0)) (ix2 (y 1) (y 2)) = _
  rw [slab_read]; rfl

/-! ## The statistics -/

theorem st_read (f : S4x4096.Idx → F .f32) (i : S4x4096.Idx) : f i = stM.view.read (Elt F) f i := rfl
theorem xb_read (f : S2x4096x512.Idx → F .bf16) (i : S2x4096x512.Idx) : f i = xbM.view.read (Elt F) f i := rfl

/-- The statistics of batch entry `b` are in place for the first `n` rows. -/
def StOk (c : Dev nD) (b : Fin 2) (n : ℕ) (f : S4x4096.Idx → F .f32) : Prop := ∀ i, (i 0).val / 2 = b.val → (i 1).val < n → f i = stC m c i

theorem st_step (c : Dev nD) (b : Fin 2) (k : Fin 8) (r₀ r₁ o : ℕ) (h₀ : r₀ = 2 * b.val) (h₁ : r₁ = 2 * b.val + 1) (ho : o = 512 * k.val)
    (i₀ i₁) (f : S4x4096.Idx → F .f32) (L : List (View.Piece (Elt F) S4x4096 .f32)) (p₀ p₁ : S1x512.Idx → F .f32)
    (e₀ : p₀ = k0_pay8 k0_pay1 (chunk m c b k)) (e₁ : p₁ = k0_pay9 k0_pay1 (chunk m c b k))
    (h : StOk m c b o (stM.view.writes (Elt F) f L)) :
    StOk m c b (o + 512) (stM.view.writes (Elt F) f
      ((⟨Rect.unit (s := S4x4096) ![r₁, o] S1x512.size i₁, p₁⟩ : View.Piece (Elt F) S4x4096 .f32) :: ⟨Rect.unit (s := S4x4096) ![r₀, o] S1x512.size i₀, p₀⟩ :: L)) := by
  subst h₀ h₁ ho
  intro i hb hi
  rw [st_read (stM.view.writes (Elt F) f _) i]
  have h0 : (i 0).val < 4 := (i 0).isLt
  by_cases hlt : (i 1).val < 512 * k.val
  · rw [View.read_writes_cons_unit_of_not_mem (a := 1) (heq := rfl) (ha := Or.inl hlt), View.read_writes_cons_unit_of_not_mem (a := 1) (heq := rfl) (ha := Or.inl hlt)]
    exact (st_read _ i).symm.trans (h i hb hlt)
  · have hk : (⟨(i 1).val / 512, by have h1 : (i 1).val < 4096 := (i 1).isLt; omega⟩ : Fin 8) = k := Fin.ext (show (i 1).val / 512 = k.val by omega)
    have hb' : (⟨(i 0).val / 2, by omega⟩ : Fin 2) = b := Fin.ext hb
    have hr : (i 1).val % 512 = (i 1).val - 512 * k.val := by omega
    unfold stC
    rw [hk, hb']
    by_cases he : (i 0).val % 2 = 0
    · rw [View.read_writes_cons_unit_of_not_mem (a := 0) (heq := rfl) (ha := Or.inl (show (i 0).val < 2 * b.val + 1 by omega)),
        View.read_writes_cons_unit_of_mem (heq := rfl) (x := ix2 (0 : Fin 1) (⟨(i 1).val % 512, Nat.mod_lt _ (by decide)⟩ : Fin 512)) (hx := ?_)]
      · simp only [if_pos he]; rw [e₀]
      · intro a
        match a with
        | ⟨0, _⟩ => show (i 0).val = 2 * b.val + 0; omega
        | ⟨1, _⟩ => show (i 1).val = 512 * k.val + (i 1).val % 512; omega
    · rw [View.read_writes_cons_unit_of_mem (heq := rfl) (x := ix2 (0 : Fin 1) (⟨(i 1).val % 512, Nat.mod_lt _ (by decide)⟩ : Fin 512)) (hx := ?_)]
      · simp only [if_neg he]; rw [e₁]
      · intro a
        match a with
        | ⟨0, _⟩ => show (i 0).val = 2 * b.val + 1 + 0; omega
        | ⟨1, _⟩ => show (i 1).val = 512 * k.val + (i 1).val % 512; omega

theorem st_start (c : Dev nD) (b : Fin 2) (f : S4x4096.Idx → F .f32) : StOk m c b 0 f := fun _ _ h => absurd h (Nat.not_lt_zero _)

/-- The statistics of the first batch entry in place, split for the copies that read them. -/
theorem st_open (c : Dev nD) (f : S4x4096.Idx → F .f32) (h : StOk m c 0 4096 f) :
    (stM.view.loc (c : Thread nD τ) ↦{fullShare} f : sProp 𝕄)
      ⊢ iprop(((stPts c 0 (shr 0) (stC m c) ∗ stPts c 0 (shr 1) (stC m c)) ∗ stPts c 0 (shr 2) (stC m c) ∗ stPts c 0 shrKept (stC m c)) ∗ stPts c 1 fullShare f) := by
  have e : (stPts c 0 fullShare f : sProp 𝕄) = stPts c 0 fullShare (stC m c) := by
    unfold stPts
    exact pointsTo_congr fun i hi => h i ((mem_stRow _ i).mp hi) (i 1).isLt
  exact (Entails.of_eq (st_rows c fullShare f)).trans (BI.sep_mono ((Entails.of_eq e).trans (st_shares c 0 (stC m c)).1) (Entails.refl _))

/-- What a device has waited for so far, forgotten. -/
theorem owes_some (c : Dev nD) (O : CellTallies nD τ sig Bool) (W : Waits sig Bool) :
    (owes (c : Thread nD τ) O W : sProp 𝕄) ⊢ iprop(∃ W', owes (c : Thread nD τ) O W') := by
  iintro H; iexists W; iexact H

theorem land_some (c : Dev nD) (f : S8x512x512.Idx → F .f32) :
    (landM.view.loc (c : Thread nD τ) ↦{fullShare} f : sProp 𝕄) ⊢ iprop(∃ f : S8x512x512.Idx → F .f32, landM.view.loc (c : Thread nD τ) ↦{fullShare} f) := by
  iintro H; iexists f; iexact H

theorem owes_zero (c : Dev nD) (O : CellTallies nD τ sig Bool) (W : Waits sig Bool) :
    (owes (c : Thread nD τ) O W : sProp 𝕄) ⊢ owes (c : Thread nD τ) (0 + O) W := by rw [zero_add]

theorem credit_cm (j : Fin 3) (b : Fin 2) : (cmRow j b).view.dmaCredit = N := by fin_cases j <;> fin_cases b <;> rfl

/-- The statistics of the second batch entry in place, split for the copies that read them. -/
theorem st_open₁ (c : Dev nD) (f : S4x4096.Idx → F .f32) (h : StOk m c 1 4096 f) :
    ((stRow 1).view.loc (c : Thread nD τ) ↦[(stRow 1).view.set]{fullShare} f : sProp 𝕄)
      ⊢ iprop((stPts c 1 (shr 0) (stC m c) ∗ stPts c 1 (shr 1) (stC m c)) ∗ stPts c 1 (shr 2) (stC m c) ∗ stPts c 1 shrKept (stC m c)) :=
  (Entails.of_eq (pointsTo_congr fun i hi => h i ((mem_stRow _ i).mp hi) (i 1).isLt)).trans (st_shares c 1 (stC m c)).1

/-! ## The rounded copy -/

/-- The rounded copy is in place for the first `n` rows of `b` (rows counted through the batch). -/
def XbOk (c : Dev nD) (n : ℕ) (f : S2x4096x512.Idx → F .bf16) : Prop := ∀ i, 4096 * (i 0).val + (i 1).val < n → f i = xbC m c i

theorem xb_start (c : Dev nD) (f : S2x4096x512.Idx → F .bf16) : XbOk m c 0 f := fun _ h => absurd h (Nat.not_lt_zero _)

theorem xb_step (c : Dev nD) (b : Fin 2) (k : Fin 8) (r o n : ℕ) (hr : r = b.val) (ho : o = 512 * k.val) (hn : n = 4096 * b.val + 512 * k.val)
    (hin) (f : S2x4096x512.Idx → F .bf16) (L : List (View.Piece (Elt F) S2x4096x512 .bf16)) (p : S1x512x512.Idx → F .bf16)
    (e : p = k0_pay7 (chunk m c b k)) (h : XbOk m c n (xbM.view.writes (Elt F) f L)) :
    XbOk m c (n + 512) (xbM.view.writes (Elt F) f
      ((⟨Rect.unit (s := S2x4096x512) ![r, o, 0] S1x512x512.size hin, p⟩ : View.Piece (Elt F) S2x4096x512 .bf16) :: L)) := by
  subst hr ho hn
  intro i hi
  rw [xb_read (xbM.view.writes (Elt F) f _) i]
  have h0 : (i 0).val < 2 := (i 0).isLt
  have h1 : (i 1).val < 4096 := (i 1).isLt
  have hk8 := k.isLt
  by_cases hlt : 4096 * (i 0).val + (i 1).val < 4096 * b.val + 512 * k.val
  · by_cases hb : (i 0).val = b.val
    · rw [View.read_writes_cons_unit_of_not_mem (a := 1) (heq := rfl) (ha := Or.inl (show (i 1).val < 512 * k.val by omega))]
      exact (xb_read _ i).symm.trans (h i hlt)
    · rw [View.read_writes_cons_unit_of_not_mem (a := 0) (heq := rfl) (ha := Or.inl (show (i 0).val < b.val by omega))]
      exact (xb_read _ i).symm.trans (h i hlt)
  · have hb : i 0 = b := Fin.ext (show (i 0).val = b.val by omega)
    have hk : (⟨(i 1).val / 512, by omega⟩ : Fin 8) = k := Fin.ext (show (i 1).val / 512 = k.val by omega)
    unfold xbC
    rw [hk, hb, ← e]
    rw [View.read_writes_cons_unit_of_mem (heq := rfl) (x := ix3 (0 : Fin 1) (⟨(i 1).val % 512, Nat.mod_lt _ (by decide)⟩ : Fin 512) (i 2)) (hx := ?_)]
    · rfl
    · intro a
      match a with
      | ⟨0, _⟩ => show (i 0).val = b.val + 0; omega
      | ⟨1, _⟩ => show (i 1).val = 512 * k.val + (i 1).val % 512; omega
      | ⟨2, _⟩ => show (i 2).val = 0 + (i 2).val; omega

end Cert.KIProof

end
-- ==== Proof.KIRun1.lean ====
/-
The body up to the first copies: the loads, the barrier, the first batch entry's statistics.
-/
module

public import proofs.«01_k».proof.Proof.KIBody

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

set_option maxHeartbeats 4000000 in
set_option sl_exec.dmaWindow true in
set_option sl_exec.dmaWindowLent true in
def s1 (c : Dev nD) (W : Waits sig Bool) (R : sProp 𝕄) (Q : PUnit → sProp 𝕄) : Σ' (G : Prop), G →
    (iprop(bodyPre m K c W ∗ R) ⊢ wp frame (wpE (defs₀ (F := F)) 𝒱₀ (c : Thread nD τ) none) Set.univ (body (F := F)) Q) := by
  sl_stretch
  unfold bodyPre lin crd ownZ scr args six
  iintro ⟨⟨#Hinv, #Hlev, ⟨HatB, ⟨HaS0, HaS1, HaS2, HaS3, HaS4, HaS5⟩, ⟨HaR0, HaR1, HaR2, HaR3, HaR4, HaR5⟩, HtB0, HtB1, HtB2,
    ⟨HtS0, HtS1, HtS2, HtS3, HtS4, HtS5⟩, ⟨HtR0, HtR1, HtR2, HtR3, HtR4, HtR5⟩⟩, ⟨HcB, HcR0, HcR1, HcR2, HcR3, HcR4, HcR5⟩,
    ⟨Hz0, Hz1, Hz2, Hz3, Hz4, Hz5, Hz6, Hz7, Hp0, Hp1⟩, ⟨⟨%fl, Hland⟩, ⟨%fxb, Hxb⟩, ⟨%fst, Hst⟩, ⟨%fcm, Hcm⟩, ⟨%fsg, Hsg⟩⟩,
    ⟨Hx, Ht, Hsc, Hsh⟩, ⟨%fo, Hout⟩, HO⟩, HQ⟩
  ihave Hcm' := (Entails.of_eq (cm_rows c fcm)) $$ Hcm
  icases Hcm' with ⟨⟨Hcm00, Hcm01⟩, ⟨Hcm10, Hcm11⟩, ⟨Hcm20, Hcm21⟩⟩
  unfold body cc0_body
  sl_exec_parts
  unfold O₀
  iapply (wp_sig m K c _ W 0 (dev1_eq c) (O₆ c + dB c 2 + dB c 1) (by decide)) $$ [HO HtB0 Hcm20 Hcm21]
  · isplitr; · iexact Hinv
    isplitl [HO]; · iexact HO
    isplitl [HtB0]; · iexact HtB0
    isplitl [Hcm20]; · iexists _; iexact Hcm20
    iexists _; iexact Hcm21
  iintro HO
  sl_exec_parts
  iapply (wp_sig m K c _ W 1 (dev2_eq c) (O₆ c + dB c 2) (by decide)) $$ [HO HtB1 Hcm10 Hcm11]
  · isplitr; · iexact Hinv
    isplitl [HO]; · iexact HO
    isplitl [HtB1]; · iexact HtB1
    isplitl [Hcm10]; · iexists _; iexact Hcm10
    iexists _; iexact Hcm11
  iintro HO
  sl_exec_parts
  iapply (wp_sig m K c _ W 2 (dev3_eq c) (O₆ c) (by decide)) $$ [HO HtB2 Hcm00 Hcm01]
  · isplitr; · iexact Hinv
    isplitl [HO]; · iexact HO
    isplitl [HtB2]; · iexact HtB2
    isplitl [Hcm00]; · iexists _; iexact Hcm00
    iexists _; iexact Hcm01
  iintro HO
  sl_exec_parts
  iapply (wp_barwait m K c W (O₆ c) (above_O₆ c)) $$ [HcB HO HatB]
  · isplitr; · iexact Hinv
    isplitr; · iexact Hlev
    isplitl [HcB]; · iexact HcB
    isplitl [HO]; · iexact HO
    iexact HatB
  iintro ⟨HO, HatB, HP0, HP1, HP2⟩
  ihave #Hmw := (mayWaits_own c (O₆ c) ((above_O₆ c).mono (by decide))) $$ Hlev
  set_option sl_exec.stopBefore "k0_part12" in
  sl_exec_parts
  sl_seam

end Cert.KIProof

end
-- ==== Proof.KIRun2.lean ====
/-
The body up to the second copies: the first copies, the second batch entry's statistics.
-/
module

public import proofs.«01_k».proof.Proof.KIVals
public import proofs.«01_k».proof.Proof.KIRun1

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

/-! ## What the first stretch read and stored -/

theorem s1_v0 (c : Dev nD) (fl) : s1.sl.v98 m c fl = chunk m c 0 0 := by
  unfold s1.sl.v98
  repeat (refine (slab_skip landM _ _ _ _ (by decide) _ _ _ _ _ _).trans ?_)
  exact (slab_hit landM _ _ _ _ _ _ _ _).trans (chunk_read m c 0 0 0 0 rfl rfl _ _ _)
theorem s1_v1 (c : Dev nD) (fl) : s1.sl.v125 m c fl = chunk m c 0 1 := by
  unfold s1.sl.v125
  repeat (refine (slab_skip landM _ _ _ _ (by decide) _ _ _ _ _ _).trans ?_)
  exact (slab_hit landM _ _ _ _ _ _ _ _).trans (chunk_read m c 0 1 0 512 rfl rfl _ _ _)
theorem s1_v2 (c : Dev nD) (fl) : s1.sl.v152 m c fl = chunk m c 0 2 := by
  unfold s1.sl.v152
  repeat (refine (slab_skip landM _ _ _ _ (by decide) _ _ _ _ _ _).trans ?_)
  exact (slab_hit landM _ _ _ _ _ _ _ _).trans (chunk_read m c 0 2 0 1024 rfl rfl _ _ _)
theorem s1_v3 (c : Dev nD) (fl) : s1.sl.v179 m c fl = chunk m c 0 3 := by
  unfold s1.sl.v179
  repeat (refine (slab_skip landM _ _ _ _ (by decide) _ _ _ _ _ _).trans ?_)
  exact (slab_hit landM _ _ _ _ _ _ _ _).trans (chunk_read m c 0 3 0 1536 rfl rfl _ _ _)
theorem s1_v4 (c : Dev nD) (fl) : s1.sl.v206 m c fl = chunk m c 0 4 := by
  unfold s1.sl.v206
  repeat (refine (slab_skip landM _ _ _ _ (by decide) _ _ _ _ _ _).trans ?_)
  exact (slab_hit landM _ _ _ _ _ _ _ _).trans (chunk_read m c 0 4 0 2048 rfl rfl _ _ _)
theorem s1_v5 (c : Dev nD) (fl) : s1.sl.v233 m c fl = chunk m c 0 5 := by
  unfold s1.sl.v233
  repeat (refine (slab_skip landM _ _ _ _ (by decide) _ _ _ _ _ _).trans ?_)
  exact (slab_hit landM _ _ _ _ _ _ _ _).trans (chunk_read m c 0 5 0 2560 rfl rfl _ _ _)
theorem s1_v6 (c : Dev nD) (fl) : s1.sl.v260 m c fl = chunk m c 0 6 := by
  unfold s1.sl.v260
  repeat (refine (slab_skip landM _ _ _ _ (by decide) _ _ _ _ _ _).trans ?_)
  exact (slab_hit landM _ _ _ _ _ _ _ _).trans (chunk_read m c 0 6 0 3072 rfl rfl _ _ _)
theorem s1_v7 (c : Dev nD) (fl) : s1.sl.v287 m c fl = chunk m c 0 7 := by
  unfold s1.sl.v287
  repeat (refine (slab_skip landM _ _ _ _ (by decide) _ _ _ _ _ _).trans ?_)
  exact (slab_hit landM _ _ _ _ _ _ _ _).trans (chunk_read m c 0 7 0 3584 rfl rfl _ _ _)

/-- After the first stretch the first batch entry's statistics are in place. -/
theorem s1_st (c : Dev nD) (fl fst) : StOk m c 0 4096 (stM.view.writes (Elt F) fst
    ((⟨Rect.unit (s := S4x4096) ![1, 3584] S1x512.size inb_S4x4096_S1x512_1_3584, k0_pay33 k0_pay1 (s1.sl.v287 m c fl)⟩ : View.Piece (Elt F) S4x4096 .f32)
      :: ⟨Rect.unit (s := S4x4096) ![0, 3584] S1x512.size inb_S4x4096_S1x512_0_3584, k0_pay32 k0_pay1 (s1.sl.v287 m c fl)⟩ :: s1.sl.Hst_14 m c fl)) := by
  have h0 := st_step m c 0 0 0 1 0 rfl rfl rfl inb_S4x4096_S1x512_0_0 inb_S4x4096_S1x512_1_0 fst [] (k0_pay4 (s1.sl.v98 m c fl)) (k0_pay5 (s1.sl.v98 m c fl))
    (by rw [s1_v0]; rfl) (by rw [s1_v0]; rfl) (st_start m c 0 fst)
  have h1 := st_step m c 0 1 0 1 512 rfl rfl rfl inb_S4x4096_S1x512_0_512 inb_S4x4096_S1x512_1_512 fst (s1.sl.Hst_2 m c fl) (k0_pay8 k0_pay1 (s1.sl.v125 m c fl)) (k0_pay9 k0_pay1 (s1.sl.v125 m c fl))
    (by rw [s1_v1]) (by rw [s1_v1]) h0
  have h2 := st_step m c 0 2 0 1 1024 rfl rfl rfl inb_S4x4096_S1x512_0_1024 inb_S4x4096_S1x512_1_1024 fst (s1.sl.Hst_4 m c fl) (k0_pay12 k0_pay1 (s1.sl.v152 m c fl)) (k0_pay13 k0_pay1 (s1.sl.v152 m c fl))
    (by rw [s1_v2]; rfl) (by rw [s1_v2]; rfl) h1
  have h3 := st_step m c 0 3 0 1 1536 rfl rfl rfl inb_S4x4096_S1x512_0_1536 inb_S4x4096_S1x512_1_1536 fst (s1.sl.Hst_6 m c fl) (k0_pay16 k0_pay1 (s1.sl.v179 m c fl)) (k0_pay17 k0_pay1 (s1.sl.v179 m c fl))
    (by rw [s1_v3]; rfl) (by rw [s1_v3]; rfl) h2
  have h4 := st_step m c 0 4 0 1 2048 rfl rfl rfl inb_S4x4096_S1x512_0_2048 inb_S4x4096_S1x512_1_2048 fst (s1.sl.Hst_8 m c fl) (k0_pay20 k0_pay1 (s1.sl.v206 m c fl)) (k0_pay21 k0_pay1 (s1.sl.v206 m c fl))
    (by rw [s1_v4]; rfl) (by rw [s1_v4]; rfl) h3
  have h5 := st_step m c 0 5 0 1 2560 rfl rfl rfl inb_S4x4096_S1x512_0_2560 inb_S4x4096_S1x512_1_2560 fst (s1.sl.Hst_10 m c fl) (k0_pay24 k0_pay1 (s1.sl.v233 m c fl)) (k0_pay25 k0_pay1 (s1.sl.v233 m c fl))
    (by rw [s1_v5]; rfl) (by rw [s1_v5]; rfl) h4
  have h6 := st_step m c 0 6 0 1 3072 rfl rfl rfl inb_S4x4096_S1x512_0_3072 inb_S4x4096_S1x512_1_3072 fst (s1.sl.Hst_12 m c fl) (k0_pay28 k0_pay1 (s1.sl.v260 m c fl)) (k0_pay29 k0_pay1 (s1.sl.v260 m c fl))
    (by rw [s1_v6]; rfl) (by rw [s1_v6]; rfl) h5
  have h7 := st_step m c 0 7 0 1 3584 rfl rfl rfl inb_S4x4096_S1x512_0_3584 inb_S4x4096_S1x512_1_3584 fst (s1.sl.Hst_14 m c fl) (k0_pay32 k0_pay1 (s1.sl.v287 m c fl)) (k0_pay33 k0_pay1 (s1.sl.v287 m c fl))
    (by rw [s1_v7]; rfl) (by rw [s1_v7]; rfl) h6
  exact h7

set_option maxHeartbeats 4000000 in
set_option sl_exec.dmaWindow true in
set_option sl_exec.dmaWindowLent true in
def s2 (c : Dev nD) (W : Waits sig Bool) (R : sProp 𝕄) (Q : PUnit → sProp 𝕄) : Σ' (G : Prop), G → (s1 m K c W R Q).1 := by
  sl_stretch
  sl_resume
  ihave Hst' := (st_open m c _ (s1_st m c fl fst)) $$ Hst
  icases Hst' with ⟨⟨⟨Hs00, Hs01⟩, Hs02, Hs0k⟩, Hst⟩
  unfold barPay
  icases HP0 with ⟨Hf00, Hf01, -, -⟩
  icases HP1 with ⟨Hf10, Hf11, -, -⟩
  icases HP2 with ⟨Hf20, Hf21, -, -⟩
  unfold O₆
  ihave HO' := (owes_some c _ _) $$ HO
  icases HO' with ⟨%W₁, HO⟩
  sl_exec_parts
  iapply (wp_copy m K c _ W₁ 0 0 (dev4_eq c) (O₃ c + dR c 0 2 + dR c 0 1)) $$ [Hs00 Hf00 HO HtS0 HtR0]
  · isplitr; · iexact Hinv
    isplitl [Hs00]; · iexact Hs00
    isplitl [Hf00]; · iexact Hf00
    isplitl [HO]; · iexact HO
    isplitl [HtS0]; · iexact HtS0
    iexact HtR0
  iintro ⟨HcS0, HO⟩
  sl_exec_parts
  iapply (wp_copy m K c _ W₁ 0 1 (dev5_eq c) (O₃ c + dR c 0 2)) $$ [Hs01 Hf10 HO HtS1 HtR1]
  · isplitr; · iexact Hinv
    isplitl [Hs01]; · iexact Hs01
    isplitl [Hf10]; · iexact Hf10
    isplitl [HO]; · iexact HO
    isplitl [HtS1]; · iexact HtS1
    iexact HtR1
  iintro ⟨HcS1, HO⟩
  sl_exec_parts
  iapply (wp_copy m K c _ W₁ 0 2 (dev6_eq c) (O₃ c)) $$ [Hs02 Hf20 HO HtS2 HtR2]
  · isplitr; · iexact Hinv
    isplitl [Hs02]; · iexact Hs02
    isplitl [Hf20]; · iexact Hf20
    isplitl [HO]; · iexact HO
    isplitl [HtS2]; · iexact HtS2
    iexact HtR2
  iintro ⟨HcS2, HO⟩
  ihave #Hmw3 := (mayWaits_own c (O₃ c) ((above_O₃ c).mono (by decide))) $$ Hlev
  unfold stPts
  set_option sl_exec.stopBefore "k0_part20" in
  sl_exec_parts
  sl_seam

end Cert.KIProof

end
-- ==== Proof.KIRun3.lean ====
/-
The body up to the combined statistics: the second copies, the waits for what the others sent.
-/
module

public import proofs.«01_k».proof.Proof.KIRun2

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

theorem s2_v0 (c : Dev nD) (fl) : s2.sl.v374 m c fl = chunk m c 1 0 := by
  unfold s2.sl.v374
  repeat (refine (slab_skip landM _ _ _ _ (by decide) _ _ _ _ _ _).trans ?_)
  exact (slab_hit landM _ _ _ _ _ _ _ _).trans (chunk_read m c 1 0 1 0 rfl rfl _ _ _)
theorem s2_v1 (c : Dev nD) (fl) : s2.sl.v395 m c fl = chunk m c 1 1 := by
  unfold s2.sl.v395
  repeat (refine (slab_skip landM _ _ _ _ (by decide) _ _ _ _ _ _).trans ?_)
  exact (slab_hit landM _ _ _ _ _ _ _ _).trans (chunk_read m c 1 1 1 512 rfl rfl _ _ _)
theorem s2_v2 (c : Dev nD) (fl) : s2.sl.v416 m c fl = chunk m c 1 2 := by
  unfold s2.sl.v416
  repeat (refine (slab_skip landM _ _ _ _ (by decide) _ _ _ _ _ _).trans ?_)
  exact (slab_hit landM _ _ _ _ _ _ _ _).trans (chunk_read m c 1 2 1 1024 rfl rfl _ _ _)
theorem s2_v3 (c : Dev nD) (fl) : s2.sl.v437 m c fl = chunk m c 1 3 := by
  unfold s2.sl.v437
  repeat (refine (slab_skip landM _ _ _ _ (by decide) _ _ _ _ _ _).trans ?_)
  exact (slab_hit landM _ _ _ _ _ _ _ _).trans (chunk_read m c 1 3 1 1536 rfl rfl _ _ _)
theorem s2_v4 (c : Dev nD) (fl) : s2.sl.v458 m c fl = chunk m c 1 4 := by
  unfold s2.sl.v458
  repeat (refine (slab_skip landM _ _ _ _ (by decide) _ _ _ _ _ _).trans ?_)
  exact (slab_hit landM _ _ _ _ _ _ _ _).trans (chunk_read m c 1 4 1 2048 rfl rfl _ _ _)
theorem s2_v5 (c : Dev nD) (fl) : s2.sl.v479 m c fl = chunk m c 1 5 := by
  unfold s2.sl.v479
  repeat (refine (slab_skip landM _ _ _ _ (by decide) _ _ _ _ _ _).trans ?_)
  exact (slab_hit landM _ _ _ _ _ _ _ _).trans (chunk_read m c 1 5 1 2560 rfl rfl _ _ _)
theorem s2_v6 (c : Dev nD) (fl) : s2.sl.v500 m c fl = chunk m c 1 6 := by
  unfold s2.sl.v500
  repeat (refine (slab_skip landM _ _ _ _ (by decide) _ _ _ _ _ _).trans ?_)
  exact (slab_hit landM _ _ _ _ _ _ _ _).trans (chunk_read m c 1 6 1 3072 rfl rfl _ _ _)
theorem s2_v7 (c : Dev nD) (fl) : s2.sl.v521 m c fl = chunk m c 1 7 := by
  unfold s2.sl.v521
  repeat (refine (slab_skip landM _ _ _ _ (by decide) _ _ _ _ _ _).trans ?_)
  exact (slab_hit landM _ _ _ _ _ _ _ _).trans (chunk_read m c 1 7 1 3584 rfl rfl _ _ _)

/-- After the second stretch the second batch entry's statistics are in place. -/
theorem s2_st (c : Dev nD) (fl fst) : StOk m c 1 4096 (s2.sl.Hst_w16 m c fl fst) := by
  have step := fun k => st_step m c 1 k 2 3
  have p := fun (k : Fin 8) v (h : v = chunk m c 1 k) => And.intro (congrArg (k0_pay8 k0_pay1) h) (congrArg (k0_pay9 k0_pay1) h)
  have h0 : StOk m c 1 512 (s2.sl.Hst_w2 m c fl fst) :=
    step 0 0 rfl rfl rfl inb_S4x4096_S1x512_2_0 inb_S4x4096_S1x512_3_0 (_) [] _ _ (p 0 _ (s2_v0 m c fl)).1 (p 0 _ (s2_v0 m c fl)).2 (st_start m c 1 _)
  have h1 : StOk m c 1 1024 (s2.sl.Hst_w4 m c fl fst) :=
    step 1 512 rfl rfl rfl inb_S4x4096_S1x512_2_512 inb_S4x4096_S1x512_3_512 (s2.sl.Hst_w2 m c fl fst) [] _ _ (p 1 _ (s2_v1 m c fl)).1 (p 1 _ (s2_v1 m c fl)).2 (h0)
  have h2 : StOk m c 1 1536 (s2.sl.Hst_w6 m c fl fst) :=
    step 2 1024 rfl rfl rfl inb_S4x4096_S1x512_2_1024 inb_S4x4096_S1x512_3_1024 (s2.sl.Hst_w4 m c fl fst) [] _ _ (p 2 _ (s2_v2 m c fl)).1 (p 2 _ (s2_v2 m c fl)).2 (h1)
  have h3 : StOk m c 1 2048 (s2.sl.Hst_w8 m c fl fst) :=
    step 3 1536 rfl rfl rfl inb_S4x4096_S1x512_2_1536 inb_S4x4096_S1x512_3_1536 (s2.sl.Hst_w6 m c fl fst) [] _ _ (p 3 _ (s2_v3 m c fl)).1 (p 3 _ (s2_v3 m c fl)).2 (h2)
  have h4 : StOk m c 1 2560 (s2.sl.Hst_w10 m c fl fst) :=
    step 4 2048 rfl rfl rfl inb_S4x4096_S1x512_2_2048 inb_S4x4096_S1x512_3_2048 (s2.sl.Hst_w8 m c fl fst) [] _ _ (p 4 _ (s2_v4 m c fl)).1 (p 4 _ (s2_v4 m c fl)).2 (h3)
  have h5 : StOk m c 1 3072 (s2.sl.Hst_w12 m c fl fst) :=
    step 5 2560 rfl rfl rfl inb_S4x4096_S1x512_2_2560 inb_S4x4096_S1x512_3_2560 (s2.sl.Hst_w10 m c fl fst) [] _ _ (p 5 _ (s2_v5 m c fl)).1 (p 5 _ (s2_v5 m c fl)).2 (h4)
  have h6 : StOk m c 1 3584 (s2.sl.Hst_w14 m c fl fst) :=
    step 6 3072 rfl rfl rfl inb_S4x4096_S1x512_2_3072 inb_S4x4096_S1x512_3_3072 (s2.sl.Hst_w12 m c fl fst) [] _ _ (p 6 _ (s2_v6 m c fl)).1 (p 6 _ (s2_v6 m c fl)).2 (h5)
  have h7 : StOk m c 1 4096 (s2.sl.Hst_w16 m c fl fst) :=
    step 7 3584 rfl rfl rfl inb_S4x4096_S1x512_2_3584 inb_S4x4096_S1x512_3_3584 (s2.sl.Hst_w14 m c fl fst) [] _ _ (p 7 _ (s2_v7 m c fl)).1 (p 7 _ (s2_v7 m c fl)).2 (h6)
  exact h7

/-- After the second stretch the rounded copy is in place. -/
theorem s2_xb (c : Dev nD) (fl fxb) : xbM.view.writes (Elt F) fxb
    ((⟨Rect.unit (s := S2x4096x512) ![1, 3584, 0] S1x512x512.size inb_S2x4096x512_S1x512x512_1_3584_0, k0_pay65 (s2.sl.v521 m c fl)⟩ : View.Piece (Elt F) S2x4096x512 .bf16)
      :: s2.sl.Hxb_15 m c fl) = xbC m c := by
  have step := fun b k => xb_step m c b k
  have p := fun (b : Fin 2) (k : Fin 8) v (h : v = chunk m c b k) => congrArg k0_pay7 h
  have h0 := step 0 0 0 0 0 rfl rfl rfl inb_S2x4096x512_S1x512x512_0_0_0 fxb ([]) _ (p 0 0 _ (s1_v0 m c fl)) (xb_start m c fxb)
  have h1 := step 0 1 0 512 512 rfl rfl rfl inb_S2x4096x512_S1x512x512_0_512_0 fxb (_) _ (p 0 1 _ (s1_v1 m c fl)) (h0)
  have h2 := step 0 2 0 1024 1024 rfl rfl rfl inb_S2x4096x512_S1x512x512_0_1024_0 fxb (_) _ (p 0 2 _ (s1_v2 m c fl)) (h1)
  have h3 := step 0 3 0 1536 1536 rfl rfl rfl inb_S2x4096x512_S1x512x512_0_1536_0 fxb (_) _ (p 0 3 _ (s1_v3 m c fl)) (h2)
  have h4 := step 0 4 0 2048 2048 rfl rfl rfl inb_S2x4096x512_S1x512x512_0_2048_0 fxb (_) _ (p 0 4 _ (s1_v4 m c fl)) (h3)
  have h5 := step 0 5 0 2560 2560 rfl rfl rfl inb_S2x4096x512_S1x512x512_0_2560_0 fxb (_) _ (p 0 5 _ (s1_v5 m c fl)) (h4)
  have h6 := step 0 6 0 3072 3072 rfl rfl rfl inb_S2x4096x512_S1x512x512_0_3072_0 fxb (_) _ (p 0 6 _ (s1_v6 m c fl)) (h5)
  have h7 := step 0 7 0 3584 3584 rfl rfl rfl inb_S2x4096x512_S1x512x512_0_3584_0 fxb (_) _ (p 0 7 _ (s1_v7 m c fl)) (h6)
  have h8 := step 1 0 1 0 4096 rfl rfl rfl inb_S2x4096x512_S1x512x512_1_0_0 fxb (_) _ (p 1 0 _ (s2_v0 m c fl)) (h7)
  have h9 := step 1 1 1 512 4608 rfl rfl rfl inb_S2x4096x512_S1x512x512_1_512_0 fxb (_) _ (p 1 1 _ (s2_v1 m c fl)) (h8)
  have h10 := step 1 2 1 1024 5120 rfl rfl rfl inb_S2x4096x512_S1x512x512_1_1024_0 fxb (_) _ (p 1 2 _ (s2_v2 m c fl)) (h9)
  have h11 := step 1 3 1 1536 5632 rfl rfl rfl inb_S2x4096x512_S1x512x512_1_1536_0 fxb (_) _ (p 1 3 _ (s2_v3 m c fl)) (h10)
  have h12 := step 1 4 1 2048 6144 rfl rfl rfl inb_S2x4096x512_S1x512x512_1_2048_0 fxb (_) _ (p 1 4 _ (s2_v4 m c fl)) (h11)
  have h13 := step 1 5 1 2560 6656 rfl rfl rfl inb_S2x4096x512_S1x512x512_1_2560_0 fxb (_) _ (p 1 5 _ (s2_v5 m c fl)) (h12)
  have h14 := step 1 6 1 3072 7168 rfl rfl rfl inb_S2x4096x512_S1x512x512_1_3072_0 fxb (_) _ (p 1 6 _ (s2_v6 m c fl)) (h13)
  have h15 := step 1 7 1 3584 7680 rfl rfl rfl inb_S2x4096x512_S1x512x512_1_3584_0 fxb (_) _ (p 1 7 _ (s2_v7 m c fl)) (h14)
  exact funext fun i => h15 i (by
    have h0 : (i 0).val < 2 := (i 0).isLt
    have h1 : (i 1).val < 4096 := (i 1).isLt
    omega)

set_option maxHeartbeats 4000000 in
set_option sl_exec.dmaWindow true in
set_option sl_exec.dmaWindowLent true in
def s3 (c : Dev nD) (W : Waits sig Bool) (R : sProp 𝕄) (Q : PUnit → sProp 𝕄) : Σ' (G : Prop), G → (s2 m K c W R Q).1 := by
  sl_stretch
  sl_resume
  ihave Hst' := (st_open₁ m c _ (s2_st m c fl fst)) $$ Hst
  icases Hst' with ⟨⟨Hs10, Hs11⟩, Hs12, Hs1k⟩
  rw [s2_xb m c fl fxb]
  ihave HO' := (owes_some c _ _) $$ HO
  icases HO' with ⟨%W₂, HO⟩
  unfold O₃
  sl_exec_parts
  iapply (wp_copy m K c _ W₂ 1 0 (dev7_eq c) (dR c 1 2 + dR c 1 1)) $$ [Hs10 Hf01 HO HtS3 HtR3]
  · isplitr; · iexact Hinv
    isplitl [Hs10]; · iexact Hs10
    isplitl [Hf01]; · iexact Hf01
    isplitl [HO]; · iexact HO
    isplitl [HtS3]; · iexact HtS3
    iexact HtR3
  iintro ⟨HcS3, HO⟩
  sl_exec_parts
  iapply (wp_copy m K c _ W₂ 1 1 (dev8_eq c) (dR c 1 2)) $$ [Hs11 Hf11 HO HtS4 HtR4]
  · isplitr; · iexact Hinv
    isplitl [Hs11]; · iexact Hs11
    isplitl [Hf11]; · iexact Hf11
    isplitl [HO]; · iexact HO
    isplitl [HtS4]; · iexact HtS4
    iexact HtR4
  iintro ⟨HcS4, HO⟩
  sl_exec_parts
  ihave HO := (owes_zero c _ _) $$ HO
  iapply (wp_copy m K c _ W₂ 1 2 (dev9_eq c) (0)) $$ [Hs12 Hf21 HO HtS5 HtR5]
  · isplitr; · iexact Hinv
    isplitl [Hs12]; · iexact Hs12
    isplitl [Hf21]; · iexact Hf21
    isplitl [HO]; · iexact HO
    isplitl [HtS5]; · iexact HtS5
    iexact HtR5
  iintro ⟨HcS5, HO⟩
  sl_exec_parts
  iapply (wp_recvwait m K c W₂ (ij 0 0) (dst := cmRow 0 0) (credit_cm 0 0)) $$ [HcR0 HO HaR0]
  · isplitr; · iexact Hinv
    isplitl [HcR0]; · iexact HcR0
    isplitl [HO]; · iexact HO
    iexact HaR0
  rw [recvPay_ij]
  iintro ⟨HO, HzR0, Hcm00⟩
  ihave HO' := (owes_some c _ _) $$ HO
  icases HO' with ⟨%W₂, HO⟩
  sl_exec_parts
  iapply (wp_recvwait m K c W₂ (ij 0 1) (dst := cmRow 1 0) (credit_cm 1 0)) $$ [HcR1 HO HaR1]
  · isplitr; · iexact Hinv
    isplitl [HcR1]; · iexact HcR1
    isplitl [HO]; · iexact HO
    iexact HaR1
  rw [recvPay_ij]
  iintro ⟨HO, HzR1, Hcm10⟩
  ihave HO' := (owes_some c _ _) $$ HO
  icases HO' with ⟨%W₂, HO⟩
  sl_exec_parts
  iapply (wp_recvwait m K c W₂ (ij 0 2) (dst := cmRow 2 0) (credit_cm 2 0)) $$ [HcR2 HO HaR2]
  · isplitr; · iexact Hinv
    isplitl [HcR2]; · iexact HcR2
    isplitl [HO]; · iexact HO
    iexact HaR2
  rw [recvPay_ij]
  iintro ⟨HO, HzR2, Hcm20⟩
  ihave HO' := (owes_some c _ _) $$ HO
  icases HO' with ⟨%W₂, HO⟩
  sl_exec_parts
  iapply (wp_recvwait m K c W₂ (ij 1 0) (dst := cmRow 0 1) (credit_cm 0 1)) $$ [HcR3 HO HaR3]
  · isplitr; · iexact Hinv
    isplitl [HcR3]; · iexact HcR3
    isplitl [HO]; · iexact HO
    iexact HaR3
  rw [recvPay_ij]
  iintro ⟨HO, HzR3, Hcm01⟩
  ihave HO' := (owes_some c _ _) $$ HO
  icases HO' with ⟨%W₂, HO⟩
  sl_exec_parts
  iapply (wp_recvwait m K c W₂ (ij 1 1) (dst := cmRow 1 1) (credit_cm 1 1)) $$ [HcR4 HO HaR4]
  · isplitr; · iexact Hinv
    isplitl [HcR4]; · iexact HcR4
    isplitl [HO]; · iexact HO
    iexact HaR4
  rw [recvPay_ij]
  iintro ⟨HO, HzR4, Hcm11⟩
  ihave HO' := (owes_some c _ _) $$ HO
  icases HO' with ⟨%W₂, HO⟩
  sl_exec_parts
  iapply (wp_recvwait m K c W₂ (ij 1 2) (dst := cmRow 2 1) (credit_cm 2 1)) $$ [HcR5 HO HaR5]
  · isplitr; · iexact Hinv
    isplitl [HcR5]; · iexact HcR5
    isplitl [HO]; · iexact HO
    iexact HaR5
  rw [recvPay_ij]
  iintro ⟨HO, HzR5, Hcm21⟩
  ihave HO' := (owes_some c _ _) $$ HO
  icases HO' with ⟨%W₂, HO⟩
  ihave Hst := (Entails.of_eq (st_rows c shrKept (stC m c)).symm) $$ [Hs0k Hs1k]
  · unfold stPts
    isplitl [Hs0k]; · iexact Hs0k
    iexact Hs1k
  ihave Hcm := (Entails.of_eq (cm_rows c (cmC m c)).symm) $$ [Hcm00 Hcm01 Hcm10 Hcm11 Hcm20 Hcm21]
  · isplitl [Hcm00 Hcm01]
    · isplitl [Hcm00]; · iexact Hcm00
      iexact Hcm01
    isplitl [Hcm10 Hcm11]
    · isplitl [Hcm10]; · iexact Hcm10
      iexact Hcm11
    isplitl [Hcm20]; · iexact Hcm20
    iexact Hcm21
  set_option sl_exec.stopBefore "k0_part24" in
  sl_exec_parts
  ihave Hland' := (land_some c _) $$ Hland
  icases Hland' with ⟨%fl', Hland⟩
  sl_seam

end Cert.KIProof

end
-- ==== Proof.KIRun4.lean ====
/-
The body up to the first copies' departures: the sixteen output chunks.
-/
module

public import proofs.«01_k».proof.Proof.KIRun3

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

set_option maxHeartbeats 8000000 in
set_option sl_exec.dmaWindow true in
set_option sl_exec.dmaWindowLent true in
def s4 (c : Dev nD) (W : Waits sig Bool) (R : sProp 𝕄) (Q : PUnit → sProp 𝕄) : Σ' (G : Prop), G → (s3 m K c W R Q).1 := by
  sl_stretch
  sl_resume
  sl_exec_parts
  sl_seam

end Cert.KIProof

end
-- ==== Proof.KIOut.lean ====
/-
The body up to the first copies' departures: the sixteen output chunks.
-/
module

public import proofs.«01_k».proof.Proof.KIRun4

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

/-! ## One chunk of the output -/

/-- The chunk of the output at row `o`: the rounded chunk `v` times the rows' `rs`, plus the rows' `nm`, times `sc`, plus `sh`. -/
def chunkOut (o : ℕ) (hs : Shape.Slices S4096x1 ![o, 0] S512x1) (rs nm : FVec F S4096x1 .bf16) (sc sh : FVec F S1x512 .bf16) (v : Vec F S1x512x512 .bf16) : FVec F S1x512x512 .bf16 :=
  shapeCast S1x512x512
    (addf (mulf (addf (mulf (shapeCast S512x512 v shapeCasts_S1x512x512_S512x512)
        (broadcastTo S512x512 (extractStridedSlice S512x1 ![o, 0] rs hs) broadcasts_S512x1_S512x512))
        (broadcastTo S512x512 (extractStridedSlice S512x1 ![o, 0] nm hs) broadcasts_S512x1_S512x512))
      (broadcastTo S512x512 sc broadcasts_S1x512_S512x512)) (broadcastTo S512x512 sh broadcasts_S1x512_S512x512)) shapeCasts_S512x512_S1x512x512

theorem col_apply (o : ℕ) (hs : Shape.Slices S4096x1 ![o, 0] S512x1) (rs : FVec F S4096x1 .bf16) (y : S512x512.Idx) (ho : o + (y 0).val < 4096) :
    broadcastTo S512x512 (extractStridedSlice S512x1 ![o, 0] rs hs) broadcasts_S512x1_S512x512 y = rs (ix2 (⟨o + (y 0).val, ho⟩ : Fin 4096) (0 : Fin 1)) := by
  refine (broadcastTo_apply _ _ y (ix2 (y 0) (0 : Fin 1)) ?_).trans (extractStridedSlice_apply _ _ _ _ _ ?_)
  · intro a
    match a with
    | ⟨0, _⟩ => rfl
    | ⟨1, _⟩ => rfl
  · intro a
    match a with
    | ⟨0, _⟩ => rfl
    | ⟨1, _⟩ => rfl

theorem row_apply (sc : FVec F S1x512 .bf16) (y : S512x512.Idx) :
    broadcastTo S512x512 sc broadcasts_S1x512_S512x512 y = sc (ix2 (0 : Fin 1) (y 1)) := by
  refine broadcastTo_apply _ _ y _ ?_
  intro a
  match a with
  | ⟨0, _⟩ => rfl
  | ⟨1, _⟩ => rfl

/-- A chunk of the output, element by element. -/
theorem chunkOut_apply (o : ℕ) (hs) (rs nm : FVec F S4096x1 .bf16) (sc sh : FVec F S1x512 .bf16) (v : Vec F S1x512x512 .bf16) (y : S1x512x512.Idx) (ho : o + (y 1).val < 4096) :
    chunkOut o hs rs nm sc sh v y
      = FloatOps.addf (FloatOps.mulf (FloatOps.addf (FloatOps.mulf (v y) (rs (ix2 (⟨o + (y 1).val, ho⟩ : Fin 4096) (0 : Fin 1))))
          (nm (ix2 (⟨o + (y 1).val, ho⟩ : Fin 4096) (0 : Fin 1)))) (sc (ix2 (0 : Fin 1) (y 2)))) (sh (ix2 (0 : Fin 1) (y 2))) := by
  unfold chunkOut
  refine (shapeCast_addUnit_apply ![512, 512] _ _ y).trans ?_
  have ev : shapeCast S512x512 v shapeCasts_S1x512x512_S512x512 (fun a => y a.succ) = v y :=
    (shapeCast_dropUnit_apply ![512, 512] v _ _).trans (congrArg v (funext fun a => by
      match a with
      | ⟨0, _⟩ => exact Fin.ext (show 0 = (y 0).val by have h0 : (y 0).val < 1 := (y 0).isLt; omega)
      | ⟨1, _⟩ => rfl
      | ⟨2, _⟩ => rfl))
  exact congrArg₂ FloatOps.addf (congrArg₂ FloatOps.mulf (congrArg₂ FloatOps.addf (congrArg₂ FloatOps.mulf ev (col_apply o hs rs _ ho)) (col_apply o hs nm _ ho))
    (row_apply sc _)) (row_apply sh _)

/-! ## The whole output block -/

/-- The rows' reciprocal standard deviation, the rows' shifted-out mean, and one plus the scale and the shift of the columns. -/
def rst (c : Dev nD) (b : Fin 2) : FVec F S4096x1 .bf16 := match b with | 0 => s4.sl.r m c | 1 => s4.sl.r_7 m c
def nmr (c : Dev nD) (b : Fin 2) : FVec F S4096x1 .bf16 := match b with | 0 => s4.sl.r_1 m c | 1 => s4.sl.r_8 m c
def osc (c : Dev nD) (b : Fin 2) : FVec F S1x512 .bf16 := match b with | 0 => s4.sl.r_2 m c | 1 => s4.sl.r_10 m c
def osh (c : Dev nD) (b : Fin 2) : FVec F S1x512 .bf16 := match b with | 0 => s4.sl.r_3 m c | 1 => s4.sl.r_11 m c

/-- The output block of device `c`. -/
def outC (c : Dev nD) : S2x4096x512.Idx → F .bf16 := fun i =>
  FloatOps.addf (FloatOps.mulf (FloatOps.addf (FloatOps.mulf (xbC m c i) (rst m c (i 0) (ix2 (i 1) (0 : Fin 1))))
    (nmr m c (i 0) (ix2 (i 1) (0 : Fin 1)))) (osc m c (i 0) (ix2 (0 : Fin 1) (i 2)))) (osh m c (i 0) (ix2 (0 : Fin 1) (i 2)))

/-- The output is in place for the first `n` rows (counted through the batch). -/
def OutOk (c : Dev nD) (n : ℕ) (f : S2x4096x512.Idx → F .bf16) : Prop := ∀ i, 4096 * (i 0).val + (i 1).val < n → f i = outC m c i

theorem out_read (f : S2x4096x512.Idx → F .bf16) (i : S2x4096x512.Idx) : f i = oM.view.read (Elt F) f i := rfl

/-- One more chunk stored in a staging slot and copied out. -/
theorem out_step (c : Dev nD) (b : Fin 2) (k : Fin 8) (r o n s : ℕ) (hr : r = b.val) (ho : o = 512 * k.val) (hn : n = 4096 * b.val + 512 * k.val) (hs)
    (i₀ i₃ h h' h'' h₁ h₁') (fsg : S2x512x512.Idx → F .bf16) (L : List (View.Piece (Elt F) S2x512x512 .bf16)) (p : S1x512x512.Idx → F .bf16)
    (e : p = chunkOut o hs (rst m c b) (nmr m c b) (osc m c b) (osh m c b)
      (xbM.view.readAt (Elt F) (Rect.unit (s := S2x4096x512) ![r, o, 0] S1x512x512.size i₃).toLoadRect (xbC m c)))
    (g : S2x4096x512.Idx → F .bf16) (hg : OutOk m c n g) :
    OutOk m c (n + 512) ((slab oM r o h h' h'').view.write (Elt F) g
      (ReadAs.same.apply ((slab sgM s 0 h₁ h₁' h'').view.read (Elt F) (sgM.view.writes (Elt F) fsg
        ((⟨Rect.unit (s := S2x512x512) ![s, 0, 0] S1x512x512.size i₀, p⟩ : View.Piece (Elt F) S2x512x512 .bf16) :: L)))) Finset.univ) := by
  subst hr ho hn
  intro i hi
  have h0 : (i 0).val < 2 := (i 0).isLt
  have h1 : (i 1).val < 4096 := (i 1).isLt
  have hk8 := k.isLt
  rw [out_read ((slab oM _ _ h h' h'').view.write (Elt F) g _ Finset.univ) i, slab_write]
  split
  · next hi' =>
    have hb : i 0 = b := Fin.ext hi'.1
    show (slab sgM s 0 h₁ h₁' h'').view.read (Elt F) _ _ = _
    rw [slab_read, View.read_writes_cons_unit_of_mem (heq := rfl) (x := ix3 (0 : Fin 1) (⟨(i 1).val - 512 * k.val, by omega⟩ : Fin 512) (i 2)) (hx := ?_), e]
    · refine (chunkOut_apply (512 * k.val) hs _ _ _ _ _ (ix3 (0 : Fin 1) (⟨(i 1).val - 512 * k.val, by omega⟩ : Fin 512) (i 2)) (show 512 * k.val + ((i 1).val - 512 * k.val) < 4096 by omega)).trans ?_
      have e1 : (⟨512 * k.val + ((i 1).val - 512 * k.val), by omega⟩ : Fin 4096) = i 1 := Fin.ext (show 512 * k.val + ((i 1).val - 512 * k.val) = (i 1).val by omega)
      have e2 : xbM.view.readAt (Elt F) (Rect.unit (s := S2x4096x512) ![b.val, 512 * k.val, 0] S1x512x512.size i₃).toLoadRect (xbC m c)
          (ix3 (0 : Fin 1) (⟨(i 1).val - 512 * k.val, by omega⟩ : Fin 512) (i 2)) = xbC m c i := by
        refine (slab_load xbM _ _ _ _ _).trans ((xb_read _ _).symm.trans (congrArg (xbC m c) ?_))
        funext a
        match a with
        | ⟨0, _⟩ => exact Fin.ext hi'.1.symm
        | ⟨1, _⟩ => exact e1
        | ⟨2, _⟩ => rfl
      rw [e2]
      unfold outC
      rw [hb]
      show FloatOps.addf (FloatOps.mulf (FloatOps.addf (FloatOps.mulf (xbC m c i) (rst m c b (ix2 (⟨512 * k.val + ((i 1).val - 512 * k.val), _⟩ : Fin 4096) (0 : Fin 1))))
        (nmr m c b (ix2 (⟨512 * k.val + ((i 1).val - 512 * k.val), _⟩ : Fin 4096) (0 : Fin 1)))) (osc m c b (ix2 (0 : Fin 1) (i 2)))) (osh m c b (ix2 (0 : Fin 1) (i 2))) = _
      rw [e1]
    · intro a
      match a with
      | ⟨0, _⟩ => rfl
      | ⟨1, _⟩ => rfl
      | ⟨2, _⟩ => show (i 2).val = 0 + (i 2).val; omega
  · next hi' =>
    exact (out_read g i).symm.trans (hg i (by omega))

theorem out_start (c : Dev nD) (f : S2x4096x512.Idx → F .bf16) : OutOk m c 0 f := fun _ h => absurd h (Nat.not_lt_zero _)

/-- A chunk written to the output block. -/
abbrev put (p q : ℕ) (h : ∀ a, (![p, q, 0] : Fin 3 → ℕ) a + S1x512x512.size a ≤ S2x4096x512.size a) (g : S2x4096x512.Idx → F .bf16) (v : S512x512.Idx → F .bf16) : S2x4096x512.Idx → F .bf16 :=
  (slab oM p q h (fun _ => rfl) squeezes_S1x512x512_S512x512).view.write (Elt F) g v Finset.univ

/-- After the fourth stretch the output block is in place. -/
theorem s4_out (c : Dev nD) (fsg : S2x512x512.Idx → F .bf16) (fo : S2x4096x512.Idx → F .bf16) :
    (put 1 3584 inb_S2x4096x512_S1x512x512_1_3584_0
      (put 1 3072 inb_S2x4096x512_S1x512x512_1_3072_0
      (put 1 2560 inb_S2x4096x512_S1x512x512_1_2560_0
      (put 1 2048 inb_S2x4096x512_S1x512x512_1_2048_0
      (put 1 1536 inb_S2x4096x512_S1x512x512_1_1536_0
      (put 1 1024 inb_S2x4096x512_S1x512x512_1_1024_0
      (put 1 512 inb_S2x4096x512_S1x512x512_1_512_0
      (put 1 0 inb_S2x4096x512_S1x512x512_1_0_0
      (put 0 3584 inb_S2x4096x512_S1x512x512_0_3584_0
      (put 0 3072 inb_S2x4096x512_S1x512x512_0_3072_0
      (put 0 2560 inb_S2x4096x512_S1x512x512_0_2560_0
      (put 0 2048 inb_S2x4096x512_S1x512x512_0_2048_0
      (put 0 1536 inb_S2x4096x512_S1x512x512_0_1536_0
      (put 0 1024 inb_S2x4096x512_S1x512x512_0_1024_0
      (put 0 512 inb_S2x4096x512_S1x512x512_0_512_0
      (put 0 0 inb_S2x4096x512_S1x512x512_0_0_0 fo (s4.sl.dma3 m c fsg)) (s4.sl.dma6 m c fsg)) (s4.sl.dma9 m c fsg)) (s4.sl.dma12 m c fsg)) (s4.sl.dma15 m c fsg)) (s4.sl.dma18 m c fsg)) (s4.sl.dma21 m c fsg)) (s4.sl.dma24 m c fsg)) (s4.sl.dma27 m c fsg)) (s4.sl.dma30 m c fsg)) (s4.sl.dma33 m c fsg)) (s4.sl.dma36 m c fsg)) (s4.sl.dma39 m c fsg)) (s4.sl.dma42 m c fsg)) (s4.sl.dma45 m c fsg)) (s4.sl.dma48 m c fsg))
      = outC m c := by
  have step := fun b k r o n s hr ho hn hs i₀ i₃ h h₁ L p e g hg => out_step m c b k r o n s hr ho hn hs i₀ i₃ h (fun _ => rfl) squeezes_S1x512x512_S512x512 h₁ (fun _ => rfl) fsg L p e g hg
  have h0 := step 0 0 0 0 0 0 rfl rfl rfl slices_S4096x1_o0_0_S512x1 inb_S2x512x512_S1x512x512_0_0_0 inb_S2x4096x512_S1x512x512_0_0_0 inb_S2x4096x512_S1x512x512_0_0_0 inb_S2x512x512_S1x512x512_0_0_0 [] _ rfl _ (out_start m c fo)
  have h1 := step 0 1 0 512 512 1 rfl rfl rfl slices_S4096x1_o512_0_S512x1 inb_S2x512x512_S1x512x512_1_0_0 inb_S2x4096x512_S1x512x512_0_512_0 inb_S2x4096x512_S1x512x512_0_512_0 inb_S2x512x512_S1x512x512_1_0_0 (s4.sl.Hsg_1 m c) _ rfl _ (h0)
  have h2 := step 0 2 0 1024 1024 0 rfl rfl rfl slices_S4096x1_o1024_0_S512x1 inb_S2x512x512_S1x512x512_0_0_0 inb_S2x4096x512_S1x512x512_0_1024_0 inb_S2x4096x512_S1x512x512_0_1024_0 inb_S2x512x512_S1x512x512_0_0_0 (s4.sl.Hsg_2 m c) _ rfl _ (h1)
  have h3 := step 0 3 0 1536 1536 1 rfl rfl rfl slices_S4096x1_o1536_0_S512x1 inb_S2x512x512_S1x512x512_1_0_0 inb_S2x4096x512_S1x512x512_0_1536_0 inb_S2x4096x512_S1x512x512_0_1536_0 inb_S2x512x512_S1x512x512_1_0_0 (s4.sl.Hsg_3 m c) _ rfl _ (h2)
  have h4 := step 0 4 0 2048 2048 0 rfl rfl rfl slices_S4096x1_o2048_0_S512x1 inb_S2x512x512_S1x512x512_0_0_0 inb_S2x4096x512_S1x512x512_0_2048_0 inb_S2x4096x512_S1x512x512_0_2048_0 inb_S2x512x512_S1x512x512_0_0_0 (s4.sl.Hsg_4 m c) _ rfl _ (h3)
  have h5 := step 0 5 0 2560 2560 1 rfl rfl rfl slices_S4096x1_o2560_0_S512x1 inb_S2x512x512_S1x512x512_1_0_0 inb_S2x4096x512_S1x512x512_0_2560_0 inb_S2x4096x512_S1x512x512_0_2560_0 inb_S2x512x512_S1x512x512_1_0_0 (s4.sl.Hsg_5 m c) _ rfl _ (h4)
  have h6 := step 0 6 0 3072 3072 0 rfl rfl rfl slices_S4096x1_o3072_0_S512x1 inb_S2x512x512_S1x512x512_0_0_0 inb_S2x4096x512_S1x512x512_0_3072_0 inb_S2x4096x512_S1x512x512_0_3072_0 inb_S2x512x512_S1x512x512_0_0_0 (s4.sl.Hsg_6 m c) _ rfl _ (h5)
  have h7 := step 0 7 0 3584 3584 1 rfl rfl rfl slices_S4096x1_o3584_0_S512x1 inb_S2x512x512_S1x512x512_1_0_0 inb_S2x4096x512_S1x512x512_0_3584_0 inb_S2x4096x512_S1x512x512_0_3584_0 inb_S2x512x512_S1x512x512_1_0_0 (s4.sl.Hsg_7 m c) _ rfl _ (h6)
  have h8 := step 1 0 1 0 4096 0 rfl rfl rfl slices_S4096x1_o0_0_S512x1 inb_S2x512x512_S1x512x512_0_0_0 inb_S2x4096x512_S1x512x512_1_0_0 inb_S2x4096x512_S1x512x512_1_0_0 inb_S2x512x512_S1x512x512_0_0_0 (s4.sl.Hsg_8 m c) _ rfl _ (h7)
  have h9 := step 1 1 1 512 4608 1 rfl rfl rfl slices_S4096x1_o512_0_S512x1 inb_S2x512x512_S1x512x512_1_0_0 inb_S2x4096x512_S1x512x512_1_512_0 inb_S2x4096x512_S1x512x512_1_512_0 inb_S2x512x512_S1x512x512_1_0_0 (s4.sl.Hsg_9 m c) _ rfl _ (h8)
  have h10 := step 1 2 1 1024 5120 0 rfl rfl rfl slices_S4096x1_o1024_0_S512x1 inb_S2x512x512_S1x512x512_0_0_0 inb_S2x4096x512_S1x512x512_1_1024_0 inb_S2x4096x512_S1x512x512_1_1024_0 inb_S2x512x512_S1x512x512_0_0_0 (s4.sl.Hsg_10 m c) _ rfl _ (h9)
  have h11 := step 1 3 1 1536 5632 1 rfl rfl rfl slices_S4096x1_o1536_0_S512x1 inb_S2x512x512_S1x512x512_1_0_0 inb_S2x4096x512_S1x512x512_1_1536_0 inb_S2x4096x512_S1x512x512_1_1536_0 inb_S2x512x512_S1x512x512_1_0_0 (s4.sl.Hsg_11 m c) _ rfl _ (h10)
  have h12 := step 1 4 1 2048 6144 0 rfl rfl rfl slices_S4096x1_o2048_0_S512x1 inb_S2x512x512_S1x512x512_0_0_0 inb_S2x4096x512_S1x512x512_1_2048_0 inb_S2x4096x512_S1x512x512_1_2048_0 inb_S2x512x512_S1x512x512_0_0_0 (s4.sl.Hsg_12 m c) _ rfl _ (h11)
  have h13 := step 1 5 1 2560 6656 1 rfl rfl rfl slices_S4096x1_o2560_0_S512x1 inb_S2x512x512_S1x512x512_1_0_0 inb_S2x4096x512_S1x512x512_1_2560_0 inb_S2x4096x512_S1x512x512_1_2560_0 inb_S2x512x512_S1x512x512_1_0_0 (s4.sl.Hsg_13 m c) _ rfl _ (h12)
  have h14 := step 1 6 1 3072 7168 0 rfl rfl rfl slices_S4096x1_o3072_0_S512x1 inb_S2x512x512_S1x512x512_0_0_0 inb_S2x4096x512_S1x512x512_1_3072_0 inb_S2x4096x512_S1x512x512_1_3072_0 inb_S2x512x512_S1x512x512_0_0_0 (s4.sl.Hsg_14 m c) _ rfl _ (h13)
  have h15 := step 1 7 1 3584 7680 1 rfl rfl rfl slices_S4096x1_o3584_0_S512x1 inb_S2x512x512_S1x512x512_1_0_0 inb_S2x4096x512_S1x512x512_1_3584_0 inb_S2x4096x512_S1x512x512_1_3584_0 inb_S2x512x512_S1x512x512_1_0_0 (s4.sl.Hsg_15 m c) _ rfl _ (h14)
  exact funext fun i => h15 i (by
    have h0 : (i 0).val < 2 := (i 0).isLt
    have h1 : (i 1).val < 4096 := (i 1).isLt
    omega)

end Cert.KIProof

end
-- ==== Proof.KIRun5.lean ====
/-
The body up to the first copies' departures: the sixteen output chunks.
-/
module

public import proofs.«01_k».proof.Proof.KIOut

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Bool (Elt F) ℕ UU ℕ

variable (m : (ℓ : Loc nD τ sig) → Buf (Elt F) ℓ) (K : Dev nD × Fin 13 → ℕ)

/-- What the body ends with: every counter at zero, the scratch buffers, the arguments as they were, the output block in place, nothing owed. -/
def bodyPost (c : Dev nD) : sProp 𝕄 :=
  iprop(semVal (barCell c) 0 ∗ six (fun b j => semVal (sendCell c (ij b j)) 0) ∗ six (fun b j => semVal (recvCell c (ij b j)) 0) ∗ ownZ c ∗ scr c ∗ args m c
    ∗ (oM.view.loc (c : Thread nD τ) ↦{fullShare} outC m c) ∗ ∃ W, owes (c : Thread nD τ) 0 W)

/-- The statistics whole again once the four shares of each half are back. -/
theorem st_close (c : Dev nD) :
    iprop((stM.view.loc (c : Thread nD τ) ↦{shrKept} stC m c)
        ∗ six (fun b j => stPts c b (shr j) (stC m c)))
      ⊢ (stM.view.loc (c : Thread nD τ) ↦{fullShare} stC m c : sProp 𝕄) := by
  unfold six
  iintro ⟨Hk, H00, H01, H02, H10, H11, H12⟩
  ihave Hk' := (Entails.of_eq (st_rows c shrKept (stC m c))) $$ Hk
  icases Hk' with ⟨Hk0, Hk1⟩
  iapply (Entails.of_eq (st_rows c fullShare (stC m c)).symm)
  isplitl [H00 H01 H02 Hk0]
  · iapply (st_shares c 0 (stC m c)).2
    isplitl [H00 H01]
    · isplitl [H00]; · iexact H00
      iexact H01
    isplitl [H02]; · iexact H02
    iexact Hk0
  · iapply (st_shares c 1 (stC m c)).2
    isplitl [H10 H11]
    · isplitl [H10]; · iexact H10
      iexact H11
    isplitl [H12]; · iexact H12
    iexact Hk1

set_option maxHeartbeats 8000000 in
set_option sl_exec.dmaWindow true in
set_option sl_exec.dmaWindowLent true in
/-- The last stretch: the six sends are waited for and everything is put back together. -/
theorem s5 (c : Dev nD) (W : Waits sig Bool) (Q : PUnit → sProp 𝕄) : (s4 m K c W iprop(bodyPost m c -∗ Q ⟨⟩) Q).1 := by
  sl_resume
  ihave Hout := (Entails.of_eq (congrArg (fun f : S2x4096x512.Idx → F .bf16 => (oM.view.loc (c : Thread nD τ) ↦{fullShare} f : sProp 𝕄)) (s4_out m c fsg fo))) $$ Hout
  ihave HO' := (owes_some c _ _) $$ HO
  icases HO' with ⟨%W₂, HO⟩
  iapply (wp_sendwait m K c W₂ (ij 0 0) (dst := stRow 0) rfl) $$ [HcS0 HO HaS0]
  · isplitr; · iexact Hinv
    isplitl [HcS0]; · iexact HcS0
    isplitl [HO]; · iexact HO
    iexact HaS0
  rw [sendPay_ij]
  iintro ⟨HO, HzS0, Hs0⟩
  ihave HO' := (owes_some c _ _) $$ HO
  icases HO' with ⟨%W₂, HO⟩
  sl_exec_parts
  iapply (wp_sendwait m K c W₂ (ij 0 1) (dst := stRow 0) rfl) $$ [HcS1 HO HaS1]
  · isplitr; · iexact Hinv
    isplitl [HcS1]; · iexact HcS1
    isplitl [HO]; · iexact HO
    iexact HaS1
  rw [sendPay_ij]
  iintro ⟨HO, HzS1, Hs1⟩
  ihave HO' := (owes_some c _ _) $$ HO
  icases HO' with ⟨%W₂, HO⟩
  sl_exec_parts
  iapply (wp_sendwait m K c W₂ (ij 0 2) (dst := stRow 0) rfl) $$ [HcS2 HO HaS2]
  · isplitr; · iexact Hinv
    isplitl [HcS2]; · iexact HcS2
    isplitl [HO]; · iexact HO
    iexact HaS2
  rw [sendPay_ij]
  iintro ⟨HO, HzS2, Hs2⟩
  ihave HO' := (owes_some c _ _) $$ HO
  icases HO' with ⟨%W₂, HO⟩
  sl_exec_parts
  iapply (wp_sendwait m K c W₂ (ij 1 0) (dst := stRow 1) rfl) $$ [HcS3 HO HaS3]
  · isplitr; · iexact Hinv
    isplitl [HcS3]; · iexact HcS3
    isplitl [HO]; · iexact HO
    iexact HaS3
  rw [sendPay_ij]
  iintro ⟨HO, HzS3, Hs3⟩
  ihave HO' := (owes_some c _ _) $$ HO
  icases HO' with ⟨%W₂, HO⟩
  sl_exec_parts
  iapply (wp_sendwait m K c W₂ (ij 1 1) (dst := stRow 1) rfl) $$ [HcS4 HO HaS4]
  · isplitr; · iexact Hinv
    isplitl [HcS4]; · iexact HcS4
    isplitl [HO]; · iexact HO
    iexact HaS4
  rw [sendPay_ij]
  iintro ⟨HO, HzS4, Hs4⟩
  ihave HO' := (owes_some c _ _) $$ HO
  icases HO' with ⟨%W₂, HO⟩
  sl_exec_parts
  iapply (wp_sendwait m K c W₂ (ij 1 2) (dst := stRow 1) rfl) $$ [HcS5 HO HaS5]
  · isplitr; · iexact Hinv
    isplitl [HcS5]; · iexact HcS5
    isplitl [HO]; · iexact HO
    iexact HaS5
  rw [sendPay_ij]
  iintro ⟨HO, HzS5, Hs5⟩
  ihave HO' := (owes_some c _ _) $$ HO
  icases HO' with ⟨%W₂, HO⟩
  sl_exec_parts
  ihave Hst := (st_close m c) $$ [Hst Hs0 Hs1 Hs2 Hs3 Hs4 Hs5]
  · unfold six
    isplitl [Hst]; · iexact Hst
    isplitl [Hs0]; · iexact Hs0
    isplitl [Hs1]; · iexact Hs1
    isplitl [Hs2]; · iexact Hs2
    isplitl [Hs3]; · iexact Hs3
    isplitl [Hs4]; · iexact Hs4
    iexact Hs5
  imod (Rounds.cell_close ER (ringRd m) (Set.mem_univ (K (c, 0))) (fun h => h) (R := 1) (duties_later m (barCell c))) $$ [HatB] with HzB
  · isplitr; · iapply (inv_bar m K c); iexact Hinv
    iexact HatB
  rw [wp_ret]; imodintro
  iapply HQ
  unfold bodyPost six ownZ scr args
  isplitl [HzB]; · iexact HzB
  isplitl [HzS0 HzS1 HzS2 HzS3 HzS4 HzS5]
  · isplitl [HzS0]; · iexact HzS0
    isplitl [HzS1]; · iexact HzS1
    isplitl [HzS2]; · iexact HzS2
    isplitl [HzS3]; · iexact HzS3
    isplitl [HzS4]; · iexact HzS4
    iexact HzS5
  isplitl [HzR0 HzR1 HzR2 HzR3 HzR4 HzR5]
  · isplitl [HzR0]; · iexact HzR0
    isplitl [HzR1]; · iexact HzR1
    isplitl [HzR2]; · iexact HzR2
    isplitl [HzR3]; · iexact HzR3
    isplitl [HzR4]; · iexact HzR4
    iexact HzR5
  isplitl [Hz0 Hz1 Hz2 Hz3 Hz4 Hz5 Hz6 Hz7 Hp0 Hp1]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hp0]; · iexact Hp0
    iexact Hp1
  isplitl [Hland Hxb Hst Hcm Hsg]
  · isplitl [Hland]; · iexists _; iexact Hland
    isplitl [Hxb]; · iexists _; iexact Hxb
    isplitl [Hst]; · iexists _; iexact Hst
    isplitl [Hcm]; · iexists _; iexact Hcm
    iexists _; iexact Hsg
  isplitl [Hx Ht Hsc Hsh]
  · isplitl [Hx]; · iexact Hx
    isplitl [Ht]; · iexact Ht
    isplitl [Hsc]; · iexact Hsc
    iexact Hsh
  isplitl [Hout]; · iexact Hout
  iexists _; iexact HO

/-- The body, from what it starts with to what it ends with. -/
theorem body_sound (c : Dev nD) (W : Waits sig Bool) (Q : PUnit → sProp 𝕄) :
    iprop(bodyPre m K c W ∗ (bodyPost m c -∗ Q ⟨⟩)) ⊢ wp frame (wpE (defs₀ (F := F)) 𝒱₀ (c : Thread nD τ) none) Set.univ (body (F := F)) Q :=
  (s1 m K c W _ Q).2 ((s2 m K c W _ Q).2 ((s3 m K c W _ Q).2 ((s4 m K c W _ Q).2 (s5 m K c W Q))))

end Cert.KIProof

end
-- ==== Proof.KILaunch.lean ====
/-
The launch: what each device is dealt, the cells' invariants made once for all devices, and the whole program's run.
-/
module

public import proofs.«01_k».proof.Proof.KIRun5
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (g : Dev nD → PrngReg)

/-! ## The run's stages -/

/-- Before the body: what the launch dealt, the scratch buffers, the two large arrays. -/
def start (c : Dev nD) : sProp 𝕄 :=
  iprop((∃ K, invAll m K) ∗ lin c ∗ ownZ c ∗ crd c ∗ levAts L lv
    ∗ (xM.view.loc (c : Thread nD τ) ↦{fullShare} X m c) ∗ (∃ f : S2x4096x512.Idx → F .bf16, oM.view.loc (c : Thread nD τ) ↦{fullShare} f))
def Φ₀ (c : Dev nD) : sProp 𝕄 := iprop(start m c ∗ scr c)
/-- After the body: every counter at zero, the scratch buffers, `x` as it was, the output block in place. -/
def Φ₁ (c : Dev nD) : sProp 𝕄 :=
  iprop(semVal (barCell c) 0 ∗ six (fun b j => semVal (sendCell c (ij b j)) 0) ∗ six (fun b j => semVal (recvCell c (ij b j)) 0) ∗ ownZ c ∗ scr c
    ∗ (xM.view.loc (c : Thread nD τ) ↦{fullShare} X m c) ∗ (oM.view.loc (c : Thread nD τ) ↦{fullShare} outC m c))

def dats (_ : Fin 1) (c : Dev nD) : Dat τ (Elt F) Bool ℕ UU ℕ cfg0 c where
  A w := m ((cfg0.win w).arr.view.loc (c : Thread nD τ))
  after w _ := match w with
    | ⟨0, _⟩ => T m c
    | ⟨1, _⟩ => Wsc m c
    | ⟨2, _⟩ => Wsh m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Bool) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem blk_0 (t : Fin cfg0.N) (A : S2x128.Idx → F .bf16) : ((cfg0.win 0).blk t).view.read (Elt F) A = A := by
  funext i
  refine congrArg A (funext fun a => Fin.ext ?_)
  match a with
  | ⟨0, _⟩ => exact (show 0 * 2 + 1 * (i 0).val = (i 0).val by omega)
  | ⟨1, _⟩ => exact (show 0 * 128 + 1 * (i 1).val = (i 1).val by omega)
omit [FloatOps F] in
theorem blk_1 (t : Fin cfg0.N) (A : S128x512.Idx → F .bf16) : ((cfg0.win 1).blk t).view.read (Elt F) A = A := by
  funext i
  refine congrArg A (funext fun a => Fin.ext ?_)
  match a with
  | ⟨0, _⟩ => exact (show 0 * 128 + 1 * (i 0).val = (i 0).val by omega)
  | ⟨1, _⟩ => exact (show 0 * 512 + 1 * (i 1).val = (i 1).val by omega)
omit [FloatOps F] in
theorem blk_2 (t : Fin cfg0.N) (A : S128x512.Idx → F .bf16) : ((cfg0.win 2).blk t).view.read (Elt F) A = A := blk_1 t A

def oblPre (c : Dev nD) : sProp 𝕄 :=
  iprop(Φ₀ m c ∗ (dats m 0 c).owesAt false t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def oblPost (c : Dev nD) : sProp 𝕄 :=
  iprop(Φ₁ m c ∗ (dats m 0 c).owesAt false t0_0.succ ∗ stg c cc0_stg0_0 (T m c) ∗ stg c cc0_stg1_0 (Wsc m c) ∗ stg c cc0_stg2_0 (Wsh m c))

theorem body_run (c : Dev nD) :
    oblPre m c ⊢ wp frame (wpE (defs₀ (F := F)) 𝒱₀ (c : Thread nD τ) none) Set.univ (body (F := F)) (fun _ => oblPost m c) := by
  unfold oblPre Φ₀ start
  iintro ⟨⟨⟨⟨%K, HI⟩, Hlin, HownZ, Hcrd, Hlev, Hx, Ho⟩, Hscr⟩, HO, ⟨%d0, %g0, %hg0, H0⟩, ⟨%d1, %g1, %hg1, H1⟩, ⟨%d2, %g2, %hg2, H2⟩⟩
  have h0 : g0 = T m c := by rw [hg0]; unfold Dat.before; rw [if_pos (fetch0_0 t0_0)]; exact blk_0 t0_0 (T m c)
  have h1 : g1 = Wsc m c := by rw [hg1]; unfold Dat.before; rw [if_pos (fetch0_1 t0_0)]; exact blk_1 t0_0 (Wsc m c)
  have h2 : g2 = Wsh m c := by rw [hg2]; unfold Dat.before; rw [if_pos (fetch0_2 t0_0)]; exact blk_2 t0_0 (Wsh m c)
  subst h0 h1 h2
  unfold Dat.owesAt Pipeline.owesWithin
  icases HO with ⟨%W, %hW, HO⟩
  rw [show (dats m 0 c).owed t0_0.castSucc = O₀ c from rfl]
  iapply (body_sound m K c W fun _ => oblPost m c)
  isplitr []
  · unfold bodyPre args
    isplitl [HI]; · iexact HI
    isplitl [Hlev]; · iexact Hlev
    isplitl [Hlin]; · iexact Hlin
    isplitl [Hcrd]; · iexact Hcrd
    isplitl [HownZ]; · iexact HownZ
    isplitl [Hscr]; · iexact Hscr
    isplitl [Hx H0 H1 H2]
    · isplitl [Hx]; · iexact Hx
      isplitl [H0]; · iexact H0
      isplitl [H1]; · iexact H1
      iexact H2
    isplitl [Ho]; · iexact Ho
    iexact HO
  · unfold bodyPost oblPost Φ₁ args Dat.owesAt Pipeline.owesWithin
    rw [show (dats m 0 c).owed t0_0.succ = 0 from rfl]
    iintro ⟨Hb, Hs, Hr, Hz, Hscr, ⟨Hx, H0, H1, H2⟩, Hout, ⟨%W', HO⟩⟩
    isplitl [Hb Hs Hr Hz Hscr Hx Hout]
    · isplitl [Hb]; · iexact Hb
      isplitl [Hs]; · iexact Hs
      isplitl [Hr]; · iexact Hr
      isplitl [Hz]; · iexact Hz
      isplitl [Hscr]; · iexact Hscr
      isplitl [Hx]; · iexact Hx
      iexact Hout
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    iexists _; isplitr; · (ipureintro; rfl)
    iexact H2

set_option maxRecDepth 100000 in
theorem body_obligation (c : Dev nD) : BodyObligation (dats (F := F) m 0 c) (defs₀ (F := F)) 𝒱₀ false Set.univ := fun t => by
  rw [fin_N0 t]
  rw [bigSep_W, bigSep_W]
  simp only [owns_whole_eq]
  exact body_run m c

/-! ## Semaphores and cells -/

theorem own_lt (k : Fin 22) : 3 + k.val < sig.nDmaSem := by revert k; decide
/-- The kernel's own semaphores: eight loads, six sends, six receives, two copies out. -/
abbrev osem : Fin 22 → SemLoc sig := fun k => .dma ⟨3 + k.val, own_lt k⟩
set_option maxRecDepth 8000 in
theorem ownSemFacts : Pipeline.OwnSemFacts cfg0.spec osem := by decide

theorem share_eq (c : Dev nD) (w : Fin cfg0.W) : (dats m 0 c).share w = fullShare := by unfold Dat.share; split <;> rfl

theorem csem_inj : Function.Injective csem := by decide
theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]
def ringCells : Finset (GSem nD τ sig) := Finset.univ.map ⟨kcell, kcell_injective⟩

/-- The fifteen duties of a device's cells: three on the barrier, one on each send and each receive cell. -/
def tk (x : Fin 15) : Fin 13 × Fin 3 := if h : x.val < 3 then (0, ⟨x.val, h⟩) else (⟨x.val - 2, by omega⟩, 0)
theorem tk_inj : Function.Injective tk := by decide
abbrev tokOf (p : Dev nD × Fin 15) : GSem nD τ sig × ℕ × Fin 3 := (kcell (p.1, (tk p.2).1), 0, (tk p.2).2)
theorem tokOf_injective : Function.Injective (tokOf : Dev nD × Fin 15 → GSem nD τ sig × ℕ × Fin 3) := by
  rintro ⟨c, x⟩ ⟨c', x'⟩ h
  have h1 := kcell_injective (congrArg Prod.fst h)
  have h2 : (tk x).2 = (tk x').2 := congrArg (fun y : GSem nD τ sig × ℕ × Fin 3 => y.2.2) h
  have h3 : (tk x).1 = (tk x').1 := congrArg Prod.snd h1
  have h4 : c = c' := congrArg Prod.fst h1
  rw [h4, tk_inj (Prod.ext h3 h2)]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

/-- The duty tokens of device `c`'s cells. -/
def toks (c : Dev nD) : sProp 𝕄 := bigSep Finset.univ fun x : Fin 15 => dutyTok ER (kcell (c, (tk x).1)) 0 (tk x).2

def G (c : Dev nD) : sProp 𝕄 :=
  iprop((bigSep Finset.univ fun k : Fin 13 => roundState ER (ringRd m) (kcell (c, k)) 0)
    ∗ (bigSep Finset.univ fun k : Fin 13 => iprop(atPos ER (kcell (c, k)) 0 ∅ 0 ∗ reached ER (kcell (c, k)) 0)) ∗ toks c)
def G' (c : Dev nD) : sProp 𝕄 := iprop((∃ K, invAll m K) ∗ lin c ∗ ownZ c)

theorem assoc_eq (P Q R : sProp 𝕄) : iprop((P ∗ Q) ∗ R) = iprop(P ∗ Q ∗ R) :=
  BI.Entails.antisymm (show iprop((P ∗ Q) ∗ R) ⊢ iprop(P ∗ Q ∗ R) from by iintro ⟨⟨H1, H2⟩, H3⟩; iframe)
    (show iprop(P ∗ Q ∗ R) ⊢ iprop((P ∗ Q) ∗ R) from by iintro ⟨H1, H2, H3⟩; iframe)

theorem bigSep_13 (Φ : Fin 13 → sProp 𝕄) :
    bigSep Finset.univ Φ = iprop(Φ 0 ∗ six (fun b j => Φ (iS (ij b j))) ∗ six (fun b j => Φ (iR (ij b j)))) := by
  rw [bigSep_univ_eq_bigSepL [0, 1, 2, 3, 4, 5, 6, 7, 8, 9, 10, 11, 12] (by decide) (by decide)]
  unfold six
  simp only [assoc_eq]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Bool) (Name := ℕ) (U := UU) (Lvl := ℕ) (Val := Elt F) (τ := τ) osem c : sProp 𝕄)
    ⊣⊢ iprop(six (fun b j => semVal (sendCell c (ij b j)) 0) ∗ six (fun b j => semVal (recvCell c (ij b j)) 0) ∗ ownZ c) := by
  rw [Pipeline.ownSems0_eq_of_list c osem [0, 1, 2, 3, 4, 5, 6, 7, 8, 9, 10, 11, 12, 13, 14, 15, 16, 17, 18, 19, 20, 21] (by decide) (by decide)]
  show iprop(semVal ((c : Thread nD τ), .dma (ldQ 0)) 0 ∗ semVal ((c : Thread nD τ), .dma (ldQ 1)) 0 ∗ semVal ((c : Thread nD τ), .dma (ldQ 2)) 0
    ∗ semVal ((c : Thread nD τ), .dma (ldQ 3)) 0 ∗ semVal ((c : Thread nD τ), .dma (ldQ 4)) 0 ∗ semVal ((c : Thread nD τ), .dma (ldQ 5)) 0
    ∗ semVal ((c : Thread nD τ), .dma (ldQ 6)) 0 ∗ semVal ((c : Thread nD τ), .dma (ldQ 7)) 0
    ∗ semVal (sendCell c 0) 0 ∗ semVal (sendCell c 1) 0 ∗ semVal (sendCell c 2) 0 ∗ semVal (sendCell c 3) 0 ∗ semVal (sendCell c 4) 0 ∗ semVal (sendCell c 5) 0
    ∗ semVal (recvCell c 0) 0 ∗ semVal (recvCell c 1) 0 ∗ semVal (recvCell c 2) 0 ∗ semVal (recvCell c 3) 0 ∗ semVal (recvCell c 4) 0 ∗ semVal (recvCell c 5) 0
    ∗ semVal ((c : Thread nD τ), .dma (cpQ 0)) 0 ∗ semVal ((c : Thread nD τ), .dma (cpQ 1)) 0) ⊣⊢
    iprop((semVal (sendCell c 0) 0 ∗ semVal (sendCell c 1) 0 ∗ semVal (sendCell c 2) 0 ∗ semVal (sendCell c 3) 0 ∗ semVal (sendCell c 4) 0 ∗ semVal (sendCell c 5) 0)
      ∗ (semVal (recvCell c 0) 0 ∗ semVal (recvCell c 1) 0 ∗ semVal (recvCell c 2) 0 ∗ semVal (recvCell c 3) 0 ∗ semVal (recvCell c 4) 0 ∗ semVal (recvCell c 5) 0) ∗ ownZ c)
  unfold ownZ
  constructor
  · iintro ⟨A0, A1, A2, A3, A4, A5, A6, A7, S0, S1, S2, S3, S4, S5, R0, R1, R2, R3, R4, R5, C0, C1⟩
    isplitl [S0 S1 S2 S3 S4 S5]; · iframe
    isplitl [R0 R1 R2 R3 R4 R5]; · iframe
    iframe
  · iintro ⟨⟨S0, S1, S2, S3, S4, S5⟩, ⟨R0, R1, R2, R3, R4, R5⟩, A0, A1, A2, A3, A4, A5, A6, A7, C0, C1⟩
    iframe

theorem unscopedSems0_eq (c : Dev nD) : (unscopedSems0 c : sProp 𝕄) = semVal (barCell c) 0 := by
  unfold unscopedSems0; rw [bigSep_eq_bigSepL_of_eq [SemLoc.reg barS] (by decide) (by decide)]; rfl

end Cert.KIProof

end
-- ==== Proof.KIMain.lean ====
/-
The cells' invariants made once for all devices, the tokens and the credit dealt, and the whole program's run.
-/
module

public import proofs.«01_k».proof.Proof.KILaunch
public import Idealize.ShloMosaic.Lib.Pipeline.Launch
public import Idealize.ShloMosaic.Lib.Pipeline.Kit
public import Idealize.ShloMosaic.Lib.Pipeline.CollectiveSegs

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (g : Dev nD → PrngReg)

/-! ## The global step -/

/-- What one device's cells become: an invariant each; the positions and tokens stay. -/
theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ ownZ c) := by
  unfold G
  iintro ⟨Hos, Hus, Hst, Hat, Htok⟩
  ihave Hos' := (ownSems0_eq (F := F) c).1 $$ Hos
  icases Hos' with ⟨HS, HV, HZ⟩
  ihave Hus' := (Entails.of_eq (unscopedSems0_eq (F := F) c)) $$ Hus
  ihave Hv := (Entails.of_eq (bigSep_13 (F := F) (fun k : Fin 13 => semVal (kcell (c, k)) 0)).symm) $$ [HS HV Hus']
  · isplitl [Hus']; · iexact Hus'
    isplitl [HS]; · iexact HS
    iexact HV
  imod (show iprop((bigSep Finset.univ fun k : Fin 13 => semVal (kcell (c, k)) 0) ∗ bigSep Finset.univ fun k : Fin 13 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HZ

/-- Duty `x`'s payer: the device whose token is on the cells of `rot x c` is `c`. -/
def fwdE (j : Fin 3) : Dev nD ≃ Dev nD := ⟨fun c => fwd c j, fun c => bwd c j, fun c => bwd_fwd c j, fun c => fwd_bwd c j⟩
def rot (x : Fin 15) : Dev nD ≃ Dev nD :=
  if h : x.val < 3 then fwdE (⟨x.val, h⟩ : Fin 3).rev else if x.val < 9 then Equiv.refl _ else fwdE ⟨(x.val - 9) % 3, Nat.mod_lt _ (by decide)⟩

/-- The tokens of the duties that device `c` pays. -/
def payToks (c : Dev nD) : sProp 𝕄 := bigSep Finset.univ fun x : Fin 15 => dutyTok ER (kcell (rot x c, (tk x).1)) 0 (tk x).2

theorem toks_around : (bigSep Finset.univ fun c : Dev nD => (toks c : sProp 𝕄)) = bigSep Finset.univ fun c : Dev nD => payToks c := by
  unfold toks payToks
  rw [Pipeline.bigSep_univ_comm, Pipeline.bigSep_univ_comm (fun (c : Dev nD) (x : Fin 15) => (dutyTok ER (kcell (rot x c, (tk x).1)) 0 (tk x).2 : sProp 𝕄))]
  exact bigSep_congr fun x _ => bigSep_univ_equiv (rot x) (fun c : Dev nD => (dutyTok ER (kcell (c, (tk x).1)) 0 (tk x).2 : sProp 𝕄))

theorem payToks_eq (c : Dev nD) : (payToks c : sProp 𝕄)
    ⊢ iprop(dutyTok ER (barCell (fwd c 0)) 0 (0 : Fin 3).rev ∗ dutyTok ER (barCell (fwd c 1)) 0 (1 : Fin 3).rev ∗ dutyTok ER (barCell (fwd c 2)) 0 (2 : Fin 3).rev
      ∗ six (fun b j => dutyTok ER (sendCell c (ij b j)) 0 0) ∗ six (fun b j => dutyTok ER (recvCell (fwd c j) (ij b j)) 0 0)) := by
  unfold payToks
  rw [bigSep_univ_eq_bigSepL [0, 1, 2, 3, 4, 5, 6, 7, 8, 9, 10, 11, 12, 13, 14] (by decide) (by decide)]
  show iprop(dutyTok ER (barCell (fwd c 2)) 0 0 ∗ dutyTok ER (barCell (fwd c 1)) 0 1 ∗ dutyTok ER (barCell (fwd c 0)) 0 2
      ∗ dutyTok ER (sendCell c (ij 0 0)) 0 0 ∗ dutyTok ER (sendCell c (ij 0 1)) 0 0 ∗ dutyTok ER (sendCell c (ij 0 2)) 0 0
      ∗ dutyTok ER (sendCell c (ij 1 0)) 0 0 ∗ dutyTok ER (sendCell c (ij 1 1)) 0 0 ∗ dutyTok ER (sendCell c (ij 1 2)) 0 0
      ∗ six (fun b j => dutyTok ER (recvCell (fwd c j) (ij b j)) 0 0)) ⊢ _
  iintro ⟨H0, H1, H2, S0, S1, S2, S3, S4, S5, HR⟩
  isplitl [H2]; · iexact H2
  isplitl [H1]; · iexact H1
  isplitl [H0]; · iexact H0
  unfold six
  isplitl [S0 S1 S2 S3 S4 S5]
  · isplitl [S0]; · iexact S0
    isplitl [S1]; · iexact S1
    isplitl [S2]; · iexact S2
    isplitl [S3]; · iexact S3
    isplitl [S4]; · iexact S4
    iexact S5
  iexact HR

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt (K : Dev nD × Fin 13 → ℕ) (c : Dev nD) :
    iprop(invAll m K ∗ ((bigSep Finset.univ fun k : Fin 13 => atPos ER (kcell (c, k)) 0 ∅ 0) ∗ payToks c ∗ ownZ c)) ⊢ G' m c := by
  unfold G' lin
  iintro ⟨HI, Hat, Htok, HZ⟩
  ihave Hat' := (Entails.of_eq (bigSep_13 (F := F) (fun k : Fin 13 => atPos ER (kcell (c, k)) 0 ∅ 0))) $$ Hat
  icases Hat' with ⟨HB, HS, HV⟩
  ihave Htok' := (payToks_eq (F := F) c) $$ Htok
  isplitl [HI]; · iexists K; iexact HI
  isplitr [HZ]
  · isplitl [HB]; · iexact HB
    isplitl [HS]; · iexact HS
    isplitl [HV]; · iexact HV
    iexact Htok'
  iexact HZ

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ ownZ c) : sProp 𝕄)
      ⊢ bigSep Finset.univ (G' m) := by
  rw [bigSep_sep', bigSep_sep', bigSep_sep', ← bigSep_univ_prod (fun ck : Dev nD × Fin 13 => iprop(∃ κ : ℕ, cellInv ER (ringRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄)), toks_around]
  iintro ⟨HI, ⟨Hat, #HR⟩, Htok, HZ⟩
  ihave HK := (BI.bigSep_exists_pi Finset.univ (fun (ck : Dev nD × Fin 13) (κ : ℕ) => (cellInv ER (ringRd m) κ (kcell ck) : sProp 𝕄))) $$ HI
  icases HK with ⟨%K, #HI⟩
  iapply (bigSep_with_persistent (R := invAll m K) fun c _ => dealt m K c)
  isplitr
  · unfold invAll; isplitl; · iexact HI
    iexact HR
  · rw [bigSep_sep', bigSep_sep']
    isplitl [Hat]; · iexact Hat
    isplitl [Htok]; · iexact Htok
    iexact HZ

theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {i k : Fin 6} : Iff (recvCell a i = recvCell b k) (a = b ∧ i = k) := by
  refine ⟨fun h => ?_, fun h => by rw [h.1, h.2]⟩
  have h1 := kcell_injective ((kcell_recv a i).trans (h.trans (kcell_recv b k).symm))
  have h2 : 7 + i.val = 7 + k.val := congrArg (fun p : Dev nD × Fin 13 => p.2.val) h1
  exact ⟨congrArg Prod.fst h1, Fin.ext (by omega)⟩
theorem bar_ne_recv (a b : Dev nD) (i : Fin 6) : barCell a ≠ recvCell b i := fun h => by
  have h' : SemLoc.reg barS = SemLoc.dma (recvQ i) := congrArg Prod.snd h
  cases h'
theorem fwd_eq_iff (c d : Dev nD) (j : Fin 3) : Iff (c = fwd d j) (d = bwd c j) :=
  ⟨fun h => by rw [h, bwd_fwd], fun h => by rw [h, fwd_bwd]⟩
theorem ij_inj (b b' : Fin 2) (j j' : Fin 3) : Iff (ij b j = ij b' j') (b = b' ∧ j = j') := by revert b b' j j'; decide

theorem dB_bar (c d : Dev nD) (j : Fin 3) : dB d j (barCell c) true = if d = bwd c j then 1 else 0 := by
  rw [tallyAt_apply]; exact if_congr (by rw [bar_eq_iff, fwd_eq_iff]; simp) rfl rfl
theorem dR_bar (c d : Dev nD) (b : Fin 2) (j : Fin 3) : dR d b j (barCell c) true = 0 := by
  rw [tallyAt_apply, if_neg (fun h => bar_ne_recv _ _ _ h.1)]
theorem dB_recv (c d : Dev nD) (i : Fin 6) (j : Fin 3) : dB d j (recvCell c i) true = 0 := by
  rw [tallyAt_apply, if_neg (fun h => bar_ne_recv _ _ _ h.1.symm)]
theorem dR_recv (c d : Dev nD) (b b' : Fin 2) (j j' : Fin 3) : dR d b j (recvCell c (ij b' j')) true = if (b' = b ∧ j' = j) ∧ d = bwd c j' then N else 0 := by
  rw [tallyAt_apply]
  refine if_congr ?_ rfl rfl
  rw [recv_eq_iff, fwd_eq_iff, ij_inj]
  constructor
  · rintro ⟨⟨h1, h2, h3⟩, -⟩; subst h3; exact ⟨⟨h2, rfl⟩, h1⟩
  · rintro ⟨⟨h2, h3⟩, h1⟩; subst h3; exact ⟨⟨h1, h2, rfl⟩, rfl⟩

theorem owed_bar (d c : Dev nD) : O₀ d (barCell c) true = (if d = bwd c 2 then 1 else 0) + (if d = bwd c 1 then 1 else 0) + (if d = bwd c 0 then 1 else 0) := by
  unfold O₀ O₆ O₃
  simp only [Pi.add_apply, Finsupp.add_apply]
  rw [dR_bar c d 1 2, dR_bar c d 1 1, dR_bar c d 1 0, dR_bar c d 0 2, dR_bar c d 0 1, dR_bar c d 0 0, dB_bar, dB_bar, dB_bar]
  simp only [Nat.zero_add, Nat.add_zero]
theorem owed_recv (d c : Dev nD) (b : Fin 2) (j : Fin 3) : O₀ d (recvCell c (ij b j)) true = if d = bwd c j then N else 0 := by
  unfold O₀ O₆ O₃
  simp only [Pi.add_apply, Finsupp.add_apply]
  rw [dR_recv c d 1 b 2 j, dR_recv c d 1 b 1 j, dR_recv c d 1 b 0 j, dR_recv c d 0 b 2 j, dR_recv c d 0 b 1 j, dR_recv c d 0 b 0 j, dB_recv, dB_recv, dB_recv]
  fin_cases b <;> fin_cases j <;> simp
theorem owed_false (d : Dev nD) (s : GSem nD τ sig) : O₀ d s false = 0 := by
  rcases Nat.eq_zero_or_pos (O₀ d s false) with h | h
  · exact h
  · exact absurd (above_O₀ d s false h).1 (by decide)

theorem launch_bar (c : Dev nD) :
    tallyOn (barCell c) (launchCredit (Pipeline.owing O₀) 0 (barCell c)) = (tallyAt (barCell c) true 3 : CellTallies nD τ sig Bool) := by
  unfold tallyAt; refine congrArg _ (Finsupp.ext fun u => ?_)
  rw [Pipeline.launchCredit_owing]
  cases u
  · rw [Finset.sum_congr rfl fun d _ => owed_false d (barCell c), Finset.sum_const_zero, Finsupp.single_apply, if_neg (by decide)]
  · rw [Finsupp.single_eq_same, Finset.sum_congr rfl fun d _ => owed_bar d c, Finset.sum_add_distrib, Finset.sum_add_distrib,
      Finset.sum_ite_eq', Finset.sum_ite_eq', Finset.sum_ite_eq', if_pos (Finset.mem_univ _), if_pos (Finset.mem_univ _), if_pos (Finset.mem_univ _)]

theorem launch_recv (c : Dev nD) (b : Fin 2) (j : Fin 3) :
    tallyOn (recvCell c (ij b j)) (launchCredit (Pipeline.owing O₀) 0 (recvCell c (ij b j))) = (tallyAt (recvCell c (ij b j)) true N : CellTallies nD τ sig Bool) := by
  unfold tallyAt; refine congrArg _ (Finsupp.ext fun u => ?_)
  rw [Pipeline.launchCredit_owing]
  cases u
  · rw [Finset.sum_congr rfl fun d _ => owed_false d (recvCell c (ij b j)), Finset.sum_const_zero, Finsupp.single_apply, if_neg (by decide)]
  · rw [Finsupp.single_eq_same, Finset.sum_congr rfl fun d _ => owed_recv d c b j, Finset.sum_ite_eq', if_pos (Finset.mem_univ _)]

/-- The credit launched for the cells, one conjunct a cell. -/
theorem creds_cells (c : Dev nD) : (Pipeline.launchCred O₀ c : sProp 𝕄)
    ⊢ bigSep Finset.univ fun k : Fin 13 => cred (tallyOn (kcell (c, k)) (launchCredit (Pipeline.owing O₀) 0 (kcell (c, k)))) := by
  unfold Pipeline.launchCred
  refine (bigSep_subset (Finset.subset_univ (Finset.univ.map ⟨csem, csem_inj⟩))).trans ?_
  rw [bigSep_map]
  exact BI.Entails.refl _

theorem creds (c : Dev nD) : (Pipeline.launchCred O₀ c : sProp 𝕄) ⊢ crd c := by
  have h := fun b j => Entails.of_eq (congrArg (fun t => (cred t : sProp 𝕄)) (launch_recv c b j))
  have e := Entails.of_eq (bigSep_13 (F := F) fun k : Fin 13 => cred (tallyOn (kcell (c, k)) (launchCredit (Pipeline.owing O₀) 0 (kcell (c, k)))))
  unfold crd
  unfold six at e ⊢
  iintro H
  ihave H' := (creds_cells (F := F) c) $$ H
  ihave H'' := e $$ H'
  icases H'' with ⟨HB, -, H0, H1, H2, H3, H4, H5⟩
  isplitl [HB]; · iapply (Entails.of_eq (congrArg (fun t => (cred t : sProp 𝕄)) (launch_bar c))); iexact HB
  isplitl [H0]; · iapply (h 0 0); iexact H0
  isplitl [H1]; · iapply (h 0 1); iexact H1
  isplitl [H2]; · iapply (h 0 2); iexact H2
  isplitl [H3]; · iapply (h 1 0); iexact H3
  isplitl [H4]; · iapply (h 1 1); iexact H4
  iapply (h 1 2); iexact H5

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (g c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  icases HG with ⟨HI, Hlin, HZ⟩
  isplitl
  · isplitl [HI]; · iexact HI
    isplitl [Hlin]; · iexact Hlin
    isplitl [HZ]; · iexact HZ
    isplitl [Hc]; · iexact Hc
    isplitl [Hlev]; · iexact Hlev
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What a device has at the end beside the semaphores: the two large arrays. -/
def endY (c : Dev nD) : sProp 𝕄 :=
  iprop(unscopedSems0 c ∗ (xM.view.loc (c : Thread nD τ) ↦{fullShare} X m c) ∗ (oM.view.loc (c : Thread nD τ) ↦{fullShare} outC m c))

theorem phi1_exit (c : Dev nD) :
    (dats m 0 c).Φ (Fin.last cfg0.N) ⊢ iprop(endY m c ∗ Pipeline.ownSems0 osem c ∗ Pipeline.scopedRest cfg0.spec c) := by
  rw [show (dats m 0 c).Φ (Fin.last cfg0.N) = Φ₁ m c from rfl, scopedRest0_eq]
  unfold Φ₁ endY scr
  rw [unscopedSems0_eq]
  iintro ⟨HB, HS, HV, HZ, Hr, Hx, Ho⟩
  isplitl [HB Hx Ho]
  · isplitl [HB]; · iexact HB
    isplitl [Hx]; · iexact Hx
    iexact Ho
  isplitl [HS HV HZ]
  · iapply (ownSems0_eq (F := F) c).2
    isplitl [HS]; · iexact HS
    isplitl [HV]; · iexact HV
    iexact HZ
  iexact Hr

theorem waits (c : Dev nD) : (levAts L lv : sProp 𝕄) ⊢ Pipeline.cellsWaits cfgs (dats m) false 0 c :=
  Pipeline.cellsWaits_intro cfgs (dats m) false 0 c fun w s t => by
    rcases t with ⟨_ | _, ht⟩
    · exact (mayWaits_own c (O₀ c) (above_O₀ c)).trans (Transfers.MayWaits.elim _)
    · show _ ⊢ MayWait (c : Thread nD τ) _ false 0
      rw [MayWait_zero]; iintro -; iempintro

/-- What the run leaves: on each device the output block, the four arguments as they were. -/
def QC : PUnit × MemSt nD τ sig (Elt F) → Prop := fun r =>
  ∀ c : Dev nD, r.2.mem ((c : Thread nD τ).loc main_v1) = outC m c ∧ r.2.mem ((c : Thread nD τ).loc main_arg0) = m ((c : Thread nD τ).loc main_arg0)
    ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3)

/-- What the final memory says of device `c` besides the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = outC m c

theorem read_end (c : Dev nD) (s' : Phys nD τ sig (Elt F)) :
    iprop(endY m c ∗ emp ∗ SI s') ⊢ |={Set.univ}=> iprop(⌜QY m c s'.mem⌝ ∗ SI s') := by
  unfold endY
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hx, Buf.eq_of_forall_mem_univ ho⟩
  iexact HSI

set_option maxRecDepth 100000 in
/-- From any memory with zero counters, every execution of the program ends, and leaves each device its output block, the
    arguments as they were and every counter at zero. -/
theorem run_main : θ_run defs (onTc (τ := τ) (main (F := F))) ⟨m, fun _ => 0, g⟩ (fun r => QC m r ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m g main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HX, -⟩
      imod (fund_ring m) $$ HX with HG
      imodintro
      isplitl [HP] <;> iassumption)
    (hglob := glob m)
    (hA := fun _ _ => rfl) (hpf := fun _ k => k.elim0)
    (X := start m) (Y := endY m) (Z := fun _ => iprop(emp))
    (hX := start_intro m g) (hin := phi0_intro m) (hout := phi1_exit m)
    (QY := QY m)
    (hY := read_end m)
    (hQ := fun s h hs => ⟨fun c => ⟨(h c).2.2.2.2, (h c).2.2.2.1,
        ((h c).1 (0 : Fin 3)).trans ((dats (F := F) m 0 c).arrAt_in (0 : Fin 3) rfl _),
        ((h c).1 (1 : Fin 3)).trans ((dats (F := F) m 0 c).arrAt_in (1 : Fin 3) rfl _),
        ((h c).1 (2 : Fin 3)).trans ((dats (F := F) m 0 c).arrAt_in (2 : Fin 3) rfl _)⟩, sem_eq_zero hs fun c => (h c).2.2.1⟩)

end Cert.KIProof

end
-- ==== Proof.KIKern.lean ====
/-
The kernel's values over the extended reals: the statistics are sums over the row's columns, and every element of the
output block is one row's element normalised with those sums, scaled and shifted.
-/
module

public import proofs.«01_k».proof.Proof.KIRow
public import proofs.«01_k».proof.Proof.KIMain
public import Idealize.ShloMosaic.Lib.MatmulPlain

@[expose] public section

noncomputable section

namespace Cert.KIProof

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ)

/-! ## The statistics of one chunk -/

theorem pay6_apply (v : Vec Ideal S1x512x512 .f32) (r l : Fin 512) : k0_pay6 v (ix2 r l) = v (ix3 (0 : Fin 1) r l) :=
  (shapeCast_dropUnit_apply ![512, 512] v _ (ix2 r l)).trans (congrArg v (funext fun a => by
    match a with
    | ⟨0, _⟩ => rfl
    | ⟨1, _⟩ => rfl
    | ⟨2, _⟩ => rfl))

theorem pay1_apply (i : S1x512.Idx) : k0_pay1 (F := Ideal) i = (1 : EReal) := Ideal.ofBits_one_bf16

theorem zero512 (i : S1x512.Idx) : (constant S1x512 .f32 0x00000000#32 : FVec Ideal S1x512 .f32) i = (0 : EReal) := Ideal.ofBits_zero_f32

/-- The ones times the transposed matrix: the sums of its rows. -/
theorem ones_matmul (w : FVec Ideal S512x512 .bf16) (r : Fin 512) :
    FloatOps.matmul dot_S1x512_S512x512_S1x512_1_1_0_0_n_n none (k0_pay1 (F := Ideal)) w (constant S1x512 .f32 0x00000000#32) (ix2 (0 : Fin 1) r)
      = ∑ l : Fin 512, w (ix2 r l) := by
  refine (Ideal.matmul_transposedRhs_apply (M := 1) (K := 512) (N := 512) none _ w _ 0 r).trans ?_
  rw [zero512]
  refine (zero_add _).trans (Finset.sum_congr rfl fun l _ => ?_)
  rw [pay1_apply]
  exact one_mul _

theorem pay8_apply (v : Vec Ideal S1x512x512 .f32) (r : Fin 512) :
    k0_pay8 (k0_pay1 (F := Ideal)) v (ix2 (0 : Fin 1) r) = ∑ l : Fin 512, v (ix3 (0 : Fin 1) r l) :=
  (congrFun (shapeCast_self _ _) _).trans ((ones_matmul _ r).trans (Finset.sum_congr rfl fun l _ => pay6_apply v r l))

theorem pay9_apply (v : Vec Ideal S1x512x512 .f32) (r : Fin 512) :
    k0_pay9 (k0_pay1 (F := Ideal)) v (ix2 (0 : Fin 1) r) = ∑ l : Fin 512, v (ix3 (0 : Fin 1) r l) * v (ix3 (0 : Fin 1) r l) :=
  (congrFun (shapeCast_self _ _) _).trans ((ones_matmul _ r).trans (Finset.sum_congr rfl fun l _ =>
    congrArg₂ (· * ·) (pay6_apply v r l) (pay6_apply v r l)))

/-- One chunk's element, found from its row in the whole block. -/
theorem chunk_at (c : Dev nD) (b : Fin 2) (s : Fin 4096) (l : Fin 512) (h h') :
    chunk m c b ⟨s.val / 512, h⟩ (ix3 (0 : Fin 1) (⟨s.val % 512, h'⟩ : Fin 512) l) = X m c (ix3 b s l) := by
  refine congrArg (X m c) ?_
  funext a
  match a with
  | ⟨0, _⟩ => rfl
  | ⟨1, _⟩ => exact Fin.ext (Nat.div_add_mod s.val 512)
  | ⟨2, _⟩ => rfl

/-! ## The statistics of one device -/

/-- The row of the sums and the row of the sums of squares of batch entry `b`. -/
abbrev q0 (b : Fin 2) : Fin 4 := ⟨2 * b.val, by omega⟩
abbrev q1 (b : Fin 2) : Fin 4 := ⟨2 * b.val + 1, by omega⟩

theorem st_sum (c : Dev nD) (b : Fin 2) (s : Fin 4096) : stC m c (ix2 (q0 b) s) = ∑ l : Fin 512, X m c (ix3 b s l) := by
  have hb : (⟨(2 * b.val) / 2, by omega⟩ : Fin 2) = b := Fin.ext (by show 2 * b.val / 2 = b.val; omega)
  refine (if_pos (show (2 * b.val) % 2 = 0 by omega)).trans ((pay8_apply _ _).trans (Finset.sum_congr rfl fun l _ => ?_))
  refine (chunk_at m c _ s l _ _).trans ?_
  exact congrArg (fun b => X m c (ix3 b s l)) hb

theorem st_sq (c : Dev nD) (b : Fin 2) (s : Fin 4096) :
    stC m c (ix2 (q1 b) s) = ∑ l : Fin 512, X m c (ix3 b s l) * X m c (ix3 b s l) := by
  have hb : (⟨(2 * b.val + 1) / 2, by omega⟩ : Fin 2) = b := Fin.ext (by show (2 * b.val + 1) / 2 = b.val; omega)
  refine (if_neg (show ¬ (2 * b.val + 1) % 2 = 0 by omega)).trans ((pay9_apply _ _).trans (Finset.sum_congr rfl fun l _ => ?_))
  have e : chunk m c ⟨(2 * b.val + 1) / 2, by omega⟩ ⟨s.val / 512, by have h := s.isLt; omega⟩ (ix3 (0 : Fin 1) (⟨s.val % 512, Nat.mod_lt _ (by decide)⟩ : Fin 512) l)
      = X m c (ix3 b s l) := (chunk_at m c _ s l _ _).trans (congrArg (fun b => X m c (ix3 b s l)) hb)
  exact congrArg₂ (· * ·) e e

/-! ## The statistics of all devices together -/

theorem pay70_apply (A : Vec Ideal S4x4096 .f32) (B C D : Vec Ideal S1x4x4096 .f32) (s : Fin 4096) (q : Fin 4) :
    k0_pay70 A B C D (ix2 s q) = A (ix2 q s) + B (ix3 (0 : Fin 1) q s) + C (ix3 (0 : Fin 1) q s) + D (ix3 (0 : Fin 1) q s) := by
  have e : ∀ V : Vec Ideal S1x4x4096 .f32, shapeCast S4x4096 V shapeCasts_S1x4x4096_S4x4096 (ix2 q s) = V (ix3 (0 : Fin 1) q s) := fun V =>
    (shapeCast_dropUnit_apply ![4, 4096] V _ (ix2 q s)).trans (congrArg V (funext fun a => by
      match a with
      | ⟨0, _⟩ => rfl
      | ⟨1, _⟩ => rfl
      | ⟨2, _⟩ => rfl))
  unfold k0_pay70
  refine (transpose_apply _ _ _ (ix2 s q) (ix2 q s) ?_).trans ?_
  · intro a
    match a with
    | ⟨0, _⟩ => rfl
    | ⟨1, _⟩ => rfl
  · exact congrArg₂ (· + ·) (congrArg₂ (· + ·) (congrArg (A (ix2 q s) + ·) (e B)) (e C)) (e D)

theorem cm_load (c : Dev nD) (j : Fin 3) (h) (q : Fin 4) (s : Fin 4096) :
    cmM.view.readAt (Elt Ideal) (Rect.unit (s := S3x4x4096) ![j.val, 0, 0] S1x4x4096.size h).toLoadRect (cmC m c) (ix3 (0 : Fin 1) q s)
      = stC m (bwd c j) (ix2 q s) := by
  have e : (Rect.unit (s := S3x4x4096) ![j.val, 0, 0] S1x4x4096.size h).emb (ix3 (0 : Fin 1) q s) = ix3 j q s := by
    funext a
    match a with
    | ⟨0, _⟩ => exact Fin.ext (show j.val + 1 * 0 = j.val by omega)
    | ⟨1, _⟩ => exact Fin.ext (show 0 + 1 * q.val = q.val by omega)
    | ⟨2, _⟩ => exact Fin.ext (show 0 + 1 * s.val = s.val by omega)
  exact congrArg (cmC m c) e

theorem st_load (c : Dev nD) (h) (q : Fin 4) (s : Fin 4096) :
    stM.view.readAt (Elt Ideal) (Rect.unit (s := S4x4096) ![0, 0] S4x4096.size h).toLoadRect (stC m c) (ix2 q s) = stC m c (ix2 q s) := by
  have e : (Rect.unit (s := S4x4096) ![0, 0] S4x4096.size h).emb (ix2 q s) = ix2 q s := by
    funext a
    match a with
    | ⟨0, _⟩ => exact Fin.ext (show 0 + 1 * q.val = q.val by omega)
    | ⟨1, _⟩ => exact Fin.ext (show 0 + 1 * s.val = s.val by omega)
  exact congrArg (stC m c) e

/-- Device `k`. -/
abbrev dv (k : Fin 4) : Dev nD := ⟨k.val, k.isLt⟩

/-- A device and the three it hears from are all four. -/
theorem sum_ring (f : Dev nD → EReal) (c : Dev nD) : f c + f (bwd c 0) + f (bwd c 1) + f (bwd c 2) = ∑ d : Fin 4, f (dv d) := by
  have h : ∀ c : Dev nD, (c = dv 0 ∧ bwd c 0 = dv 3 ∧ bwd c 1 = dv 2 ∧ bwd c 2 = dv 1) ∨ (c = dv 1 ∧ bwd c 0 = dv 0 ∧ bwd c 1 = dv 3 ∧ bwd c 2 = dv 2)
      ∨ (c = dv 2 ∧ bwd c 0 = dv 1 ∧ bwd c 1 = dv 0 ∧ bwd c 2 = dv 3) ∨ (c = dv 3 ∧ bwd c 0 = dv 2 ∧ bwd c 1 = dv 1 ∧ bwd c 2 = dv 0) := by decide
  rw [Fin.sum_univ_four]
  rcases h c with ⟨h, h0, h1, h2⟩ | ⟨h, h0, h1, h2⟩ | ⟨h, h0, h1, h2⟩ | ⟨h, h0, h1, h2⟩ <;> rw [h0, h1, h2, h] <;>
    generalize f (dv 0) = x0 <;> generalize f (dv 1) = x1 <;> generalize f (dv 2) = x2 <;> generalize f (dv 3) = x3 <;> ac_rfl

theorem tot_apply (c : Dev nD) (s : Fin 4096) (q : Fin 4) : s3.sl.r_2 m c (ix2 s q) = ∑ d : Fin 4, stC m (dv d) (ix2 q s) := by
  unfold s3.sl.r_2
  refine (pay70_apply _ _ _ _ s q).trans (Eq.trans ?_ (sum_ring (fun d => stC m d (ix2 q s)) c))
  exact congrArg₂ (· + ·) (congrArg₂ (· + ·) (congrArg₂ (· + ·) (st_load m c _ q s) (cm_load m c 0 _ q s)) (cm_load m c 1 _ q s)) (cm_load m c 2 _ q s)

/-- The sum and the sum of squares of one row over all devices. -/
def S1 (b : Fin 2) (s : Fin 4096) : EReal := ∑ d : Fin 4, ∑ l : Fin 512, X m (dv d) (ix3 b s l)
def S2 (b : Fin 2) (s : Fin 4096) : EReal := ∑ d : Fin 4, ∑ l : Fin 512, X m (dv d) (ix3 b s l) * X m (dv d) (ix3 b s l)

theorem tot_sum (c : Dev nD) (b : Fin 2) (s : Fin 4096) : s3.sl.r_2 m c (ix2 s (q0 b)) = S1 m b s :=
  (tot_apply m c s _).trans (Finset.sum_congr rfl fun d _ => st_sum m (dv d) b s)
theorem tot_sq (c : Dev nD) (b : Fin 2) (s : Fin 4096) : s3.sl.r_2 m c (ix2 s (q1 b)) = S2 m b s :=
  (tot_apply m c s _).trans (Finset.sum_congr rfl fun d _ => st_sq m (dv d) b s)

/-! ## Mean and reciprocal root -/

theorem column (q : Fin 4) (v : FVec Ideal S4096x4 .f32) (h : Shape.Slices S4096x4 ![0, q.val] S4096x1) (s : Fin 4096) :
    extractStridedSlice S4096x1 ![0, q.val] v h (ix2 s (0 : Fin 1)) = v (ix2 s q) := by
  refine extractStridedSlice_apply _ _ _ _ _ ?_
  intro a
  match a with
  | ⟨0, _⟩ => exact (Nat.zero_add _).symm
  | ⟨1, _⟩ => rfl

/-- The mean and the reciprocal root as the kernel takes them from a sum and a sum of squares. -/
def mean (S : EReal) : EReal := S * Ideal.ofBits .f32 0x3A000000#32
def rsq (S Q : EReal) : EReal := Ideal.rsqrt (Q * Ideal.ofBits .f32 0x3A000000#32 - mean S * mean S + Ideal.ofBits .f32 0x3727C5AC#32)

theorem rst_apply (c : Dev nD) (b : Fin 2) (s : Fin 4096) : rst m c b (ix2 s (0 : Fin 1)) = rsq (S1 m b s) (S2 m b s) := by
  have h : ∀ a a' e e' : EReal, a = a' → e = e' → rsq a e = rsq a' e' := by rintro _ _ _ _ rfl rfl; rfl
  match b with
  | 0 => exact h _ _ _ _ ((column 0 _ slices_S4096x4_o0_0_S4096x1 s).trans (tot_sum m c 0 s)) ((column 1 _ slices_S4096x4_o0_1_S4096x1 s).trans (tot_sq m c 0 s))
  | 1 => exact h _ _ _ _ ((column 2 _ slices_S4096x4_o0_2_S4096x1 s).trans (tot_sum m c 1 s)) ((column 3 _ slices_S4096x4_o0_3_S4096x1 s).trans (tot_sq m c 1 s))

theorem nmr_apply (c : Dev nD) (b : Fin 2) (s : Fin 4096) :
    nmr m c b (ix2 s (0 : Fin 1)) = (0 - mean (S1 m b s)) * rsq (S1 m b s) (S2 m b s) := by
  have h : ∀ a a' e e' : EReal, a = a' → e = e' →
      (Ideal.ofBits .f32 0x00000000#32 - mean a) * rsq a e = (0 - mean a') * rsq a' e' := by
    rintro _ _ _ _ rfl rfl; rw [Ideal.ofBits_zero_f32]
  match b with
  | 0 => exact h _ _ _ _ ((column 0 _ slices_S4096x4_o0_0_S4096x1 s).trans (tot_sum m c 0 s)) ((column 1 _ slices_S4096x4_o0_1_S4096x1 s).trans (tot_sq m c 0 s))
  | 1 => exact h _ _ _ _ ((column 2 _ slices_S4096x4_o0_2_S4096x1 s).trans (tot_sum m c 1 s)) ((column 3 _ slices_S4096x4_o0_3_S4096x1 s).trans (tot_sq m c 1 s))

/-! ## Scale and shift -/

theorem zero2 (i : S2x512.Idx) : (constant S2x512 .f32 0x00000000#32 : FVec Ideal S2x512 .f32) i = (0 : EReal) := Ideal.ofBits_zero_f32

/-- The product of the two loaded operands. -/
theorem prod_apply (t : Vec Ideal S2x128 .bf16) (w : Vec Ideal S128x512 .bf16) (b : Fin 2) (l : Fin 512) :
    k0_pay68 t w (ix2 b l) = ∑ k : Fin 128, t (ix2 b k) * w (ix2 k l) := by
  refine (Ideal.matmul_plain_apply (M := 2) (K := 128) (N := 512) none _ _ _ b l).trans ?_
  rw [zero2]
  refine (zero_add _).trans (Finset.sum_congr rfl fun k _ => ?_)
  exact congrArg₂ (· * ·) (congrFun (shapeCast_self t _) _) (congrFun (shapeCast_self w _) _)

theorem whole2 {a b : ℕ} (i : (⟨2, ![a, b]⟩ : Shape).Idx) (h) : (Rect.unit (s := ⟨2, ![a, b]⟩) ![0, 0] ![a, b] h).emb i = i := by
  funext x
  match x with
  | ⟨0, _⟩ => exact Fin.ext (show 0 + 1 * (i 0).val = (i 0).val by omega)
  | ⟨1, _⟩ => exact Fin.ext (show 0 + 1 * (i 1).val = (i 1).val by omega)

/-- The embedding times the scale matrix, and times the shift matrix. -/
def sc (c : Dev nD) (b : Fin 2) (l : Fin 512) : EReal :=
  ∑ k : Fin 128, T m c (ix2 b k) * Wsc m c (ix2 k l)
def sh (c : Dev nD) (b : Fin 2) (l : Fin 512) : EReal :=
  ∑ k : Fin 128, T m c (ix2 b k) * Wsh m c (ix2 k l)

theorem r_apply (c : Dev nD) (b : Fin 2) (l : Fin 512) : s3.sl.r m c (ix2 b l) = sc m c b l := by
  unfold s3.sl.r sc
  refine (prod_apply _ _ b l).trans (Finset.sum_congr rfl fun k _ => ?_)
  exact congrArg₂ (· * ·) (congrArg (T m c) (whole2 _ _)) (congrArg (Wsc m c) (whole2 _ _))

theorem r1_apply (c : Dev nD) (b : Fin 2) (l : Fin 512) : s3.sl.r_1 m c (ix2 b l) = sh m c b l := by
  unfold s3.sl.r_1 sh
  refine (prod_apply _ _ b l).trans (Finset.sum_congr rfl fun k _ => ?_)
  exact congrArg₂ (· * ·) (congrArg (T m c) (whole2 _ _)) (congrArg (Wsh m c) (whole2 _ _))

theorem line (b : Fin 2) (v : FVec Ideal S2x512 .f32) (h : Shape.Slices S2x512 ![b.val, 0] S1x512) (l : Fin 512) :
    extractStridedSlice S1x512 ![b.val, 0] v h (ix2 (0 : Fin 1) l) = v (ix2 b l) := by
  refine extractStridedSlice_apply _ _ _ _ _ ?_
  intro a
  match a with
  | ⟨0, _⟩ => rfl
  | ⟨1, _⟩ => exact (Nat.zero_add _).symm

theorem osc_apply (c : Dev nD) (b : Fin 2) (l : Fin 512) : osc m c b (ix2 (0 : Fin 1) l) = 1 + sc m c b l := by
  have h : ∀ a a' : EReal, a = a' → Ideal.ofBits .f32 0x3F800000#32 + a = 1 + a' := by
    rintro _ _ rfl; rw [Ideal.ofBits_one_f32]
  match b with
  | 0 => exact h _ _ ((line 0 _ slices_S2x512_o0_0_S1x512 l).trans (r_apply m c 0 l))
  | 1 => exact h _ _ ((line 1 _ slices_S2x512_o1_0_S1x512 l).trans (r_apply m c 1 l))

theorem osh_apply (c : Dev nD) (b : Fin 2) (l : Fin 512) : osh m c b (ix2 (0 : Fin 1) l) = sh m c b l := by
  match b with
  | 0 => exact (line 0 _ slices_S2x512_o0_0_S1x512 l).trans (r1_apply m c 0 l)
  | 1 => exact (line 1 _ slices_S2x512_o1_0_S1x512 l).trans (r1_apply m c 1 l)

/-! ## The output block -/

theorem xb_apply (c : Dev nD) (b : Fin 2) (s : Fin 4096) (l : Fin 512) : xbC m c (ix3 b s l) = X m c (ix3 b s l) := by
  unfold xbC k0_pay7
  refine (shapeCast_addUnit_apply ![512, 512] _ _ _).trans ?_
  refine (congrArg _ (show _ = ix2 (⟨s.val % 512, Nat.mod_lt _ (by decide)⟩ : Fin 512) l from funext fun a => by
    match a with
    | ⟨0, _⟩ => rfl
    | ⟨1, _⟩ => rfl)).trans ((pay6_apply _ _ l).trans (chunk_at m c b s l _ _))

theorem out_apply (c : Dev nD) (b : Fin 2) (s : Fin 4096) (l : Fin 512) :
    outC m c (ix3 b s l) = (X m c (ix3 b s l) * rsq (S1 m b s) (S2 m b s) + (0 - mean (S1 m b s)) * rsq (S1 m b s) (S2 m b s))
      * (1 + sc m c b l) + sh m c b l := by
  have h : ∀ x x' r r' n n' a a' d d' : EReal, x = x' → r = r' → n = n' → a = a' → d = d' → (x * r + n) * a + d = (x' * r' + n') * a' + d' := by
    rintro _ _ _ _ _ _ _ _ _ _ rfl rfl rfl rfl rfl; rfl
  exact h _ _ _ _ _ _ _ _ _ _ (xb_apply m c b s l) (rst_apply m c b s) (nmr_apply m c b s) (osc_apply m c b l) (osh_apply m c b l)

end Cert.KIProof

end
-- ==== Proof.KIRef.lean ====
/-
The reference's result over the extended reals, element by element.
-/
module

public import proofs.«01_k».proof.Proof.KIRow
public import proofs.«01_k».proof.Proof.Gen.ReferenceIdeal.Run
public import Idealize.ShloMosaic.Lib.StackMember
public import Idealize.ShloMosaic.Lib.ValueIdx
public import Idealize.ShloMosaic.Lib.Pipeline.Value
public import Idealize.ShloMosaic.Lib.IdealHost

@[expose] public section

noncomputable section

namespace Cert.RefProof

open Cert.ReferenceIdeal Cert.ReferenceIdeal.Gen

open Idealize.ShloMosaic
open Idealize.ShloMosaic.TcCoe
open Idealize.ShloMosaic.ValueIdx
open scoped BigOperators

/-! ## The reference's steps as functions of its arguments -/

variable (A : FVec Ideal S2x4096x2048 .f32) (E : FVec Ideal S2x128 .bf16) (W V : FVec Ideal S128x2048 .bf16)

/-- The rows' means. -/
def meanV : FVec Ideal S2x4096x1 .f32 :=
  Host.divf (broadcastInDim S2x4096x1 ![0, 1] bcast_S2x4096_S2x4096x1_0_1 (Host.reduceAdd A (constant S_ .f32 0x00000000#32) reducesTo_S2x4096x2048_S2x4096_d2 h_S_))
    (broadcastInDim S2x4096x1 ![] bcast_S_S2x4096x1 (constant S_ .f32 0x45000000#32))

/-- Every entry less its row's mean. -/
def devV : FVec Ideal S2x4096x2048 .f32 := subf A (broadcastInDim S2x4096x2048 ![0, 1, 2] bcast_S2x4096x1_S2x4096x2048_0_1_2 (meanV A))

/-- The number of entries of a row, as the variance counts it. -/
def countV : FVec Ideal S_ .f32 := subf (constant S_ .f32 0x45000000#32) (sitofp .f32 (constantI S_ 32 0#32))

/-- The rows' variances. -/
def varV : FVec Ideal S2x4096x1 .f32 :=
  select (broadcastInDim S2x4096x1 ![] bcast_S_S2x4096x1 (cmpf .ogt countV (constant S_ .f32 0x00000000#32)))
    (Host.divf (broadcastInDim S2x4096x1 ![0, 1] bcast_S2x4096_S2x4096x1_0_1 (Host.reduceAdd (mulf (devV A) (devV A)) (constant S_ .f32 0x00000000#32) reducesTo_S2x4096x2048_S2x4096_d2 h_S_))
      (broadcastInDim S2x4096x1 ![] bcast_S_S2x4096x1 countV))
    (broadcastInDim S2x4096x1 ![] bcast_S_S2x4096x1 (id (constant S_ .f32 0x7FC00000#32)))

/-- The rows normalised. -/
def normV : FVec Ideal S2x4096x2048 .f32 :=
  Host.divf (devV A) (broadcastInDim S2x4096x2048 ![0, 1, 2] bcast_S2x4096x1_S2x4096x2048_0_1_2
    (Host.sqrt (addf (varV A) (broadcastInDim S2x4096x1 ![] bcast_S_S2x4096x1 (constant S_ .f32 0x3727C5AC#32)))))

/-- The embedding times a matrix, with an axis of one for the rows. -/
def prodV : FVec Ideal S2x1x2048 .f32 :=
  broadcastInDim S2x1x2048 ![0, 2] bcast_S2x2048_S2x1x2048_0_2
    (Host.dotGeneral dot_S2x128_S128x2048_S2x2048_1_0_0_1_n_n none (extf .f32 E bitsLt_bf16_f32) (extf .f32 W bitsLt_bf16_f32))

/-- The result. -/
def resV : FVec Ideal S2x4096x2048 .bf16 :=
  truncf .bf16 (addf (mulf (normV A) (broadcastInDim S2x4096x2048 ![0, 1, 2] bcast_S2x1x2048_S2x4096x2048_0_1_2
      (addf (broadcastInDim S2x1x2048 ![] bcast_S_S2x1x2048 (constant S_ .f32 0x3F800000#32)) (prodV E W))))
    (broadcastInDim S2x4096x2048 ![0, 1, 2] bcast_S2x1x2048_S2x4096x2048_0_1_2 (prodV E V))) bitsLt_bf16_f32

/-! ## Their elements -/

theorem row_red : Shape.Reduces S2x4096x2048 [2] S2x4096 := by decide

theorem lift_row (b : Fin 2) (s : Fin 4096) (k : Fin 2048) : row_red.lift (ix2 b s) k = ix3 b s k := by
  funext a
  match a with
  | ⟨0, _⟩ => rfl
  | ⟨1, _⟩ => rfl
  | ⟨2, _⟩ => rfl

/-- The sum of a row. -/
theorem sum_row (B : FVec Ideal S2x4096x2048 .f32) (b : Fin 2) (s : Fin 4096) :
    broadcastInDim S2x4096x1 ![0, 1] bcast_S2x4096_S2x4096x1_0_1 (Host.reduceAdd B (constant S_ .f32 0x00000000#32) reducesTo_S2x4096x2048_S2x4096_d2 h_S_) (ix3 b s (0 : Fin 1))
      = ∑ k : Fin 2048, B (ix3 b s k) := by
  refine (broadcastInDim_apply _ _ _ _ (ix2 b s) ?_).trans ?_
  · intro a
    match a with
    | ⟨0, _⟩ => rfl
    | ⟨1, _⟩ => rfl
  · refine (hostReduceAdd_apply _ _ _ _ _).trans ((Ideal.hostReduceAdd_single _ row_red _ _ _).trans ?_)
    refine (congrArg₂ (· + ·) (show _ = (0 : EReal) from Ideal.ofBits_zero_f32) (Finset.sum_congr rfl fun k _ => congrArg B (lift_row b s k))).trans ?_
    exact zero_add _

/-- A column of row values spread over the row. -/
theorem spread_row (B : FVec Ideal S2x4096x1 .f32) (b : Fin 2) (s : Fin 4096) (k : Fin 2048) :
    broadcastInDim S2x4096x2048 ![0, 1, 2] bcast_S2x4096x1_S2x4096x2048_0_1_2 B (ix3 b s k) = B (ix3 b s (0 : Fin 1)) := by
  refine broadcastInDim_apply _ _ _ _ _ ?_
  intro a
  match a with
  | ⟨0, _⟩ => rfl
  | ⟨1, _⟩ => rfl
  | ⟨2, _⟩ => rfl

/-- One line spread over the rows. -/
theorem spread_line (B : FVec Ideal S2x1x2048 .f32) (b : Fin 2) (s : Fin 4096) (k : Fin 2048) :
    broadcastInDim S2x4096x2048 ![0, 1, 2] bcast_S2x1x2048_S2x4096x2048_0_1_2 B (ix3 b s k) = B (ix3 b (0 : Fin 1) k) := by
  refine broadcastInDim_apply _ _ _ _ _ ?_
  intro a
  match a with
  | ⟨0, _⟩ => rfl
  | ⟨1, _⟩ => rfl
  | ⟨2, _⟩ => rfl

/-- The sum, the mean and the mean squared deviation of a row. -/
def sumR (b : Fin 2) (s : Fin 4096) : EReal := ∑ k : Fin 2048, A (ix3 b s k)
def meanR (b : Fin 2) (s : Fin 4096) : EReal := Ideal.div (sumR A b s) ((2048 : ℝ) : EReal)
def varR (b : Fin 2) (s : Fin 4096) : EReal :=
  Ideal.div (∑ k : Fin 2048, (A (ix3 b s k) - meanR A b s) * (A (ix3 b s k) - meanR A b s)) ((2048 : ℝ) : EReal)

theorem mean_apply (b : Fin 2) (s : Fin 4096) : meanV A (ix3 b s (0 : Fin 1)) = meanR A b s :=
  congrArg₂ Ideal.div (sum_row A b s) ((broadcastInDim_scalar_apply _ _ _).trans Row.bits_len)

theorem dev_apply (b : Fin 2) (s : Fin 4096) (k : Fin 2048) : devV A (ix3 b s k) = A (ix3 b s k) - meanR A b s :=
  congrArg (A (ix3 b s k) - ·) ((spread_row _ b s k).trans (mean_apply A b s))

theorem count_apply (i : S_.Idx) : countV i = ((2048 : ℝ) : EReal) := by
  show Ideal.ofBits .f32 0x45000000#32 - (((0#32 : BitVec 32).toInt : ℝ) : EReal) = _
  rw [Row.bits_len]
  simp

theorem var_apply (b : Fin 2) (s : Fin 4096) : varV A (ix3 b s (0 : Fin 1)) = varR A b s := by
  have hc : broadcastInDim S2x4096x1 ![] bcast_S_S2x4096x1 (cmpf .ogt countV (constant S_ .f32 0x00000000#32)) (ix3 b s (0 : Fin 1)) = 1#1 := by
    refine (broadcastInDim_scalar_apply _ _ _).trans ?_
    show Ideal.cmp .ogt (countV ix0) (Ideal.ofBits .f32 0x00000000#32) = 1#1
    rw [count_apply, Ideal.ofBits_zero_f32]
    have h : (0 : EReal) < ((2048 : ℝ) : EReal) := by rw [← EReal.coe_zero, EReal.coe_lt_coe_iff]; norm_num
    unfold Ideal.cmp
    simp only [h, decide_true]
    rfl
  refine (if_pos hc).trans ?_
  refine congrArg₂ Ideal.div ((sum_row _ b s).trans (Finset.sum_congr rfl fun k _ => ?_)) ((broadcastInDim_scalar_apply _ _ _).trans (count_apply _))
  exact congrArg₂ (· * ·) (dev_apply A b s k) (dev_apply A b s k)

theorem norm_apply (b : Fin 2) (s : Fin 4096) (k : Fin 2048) :
    normV A (ix3 b s k) = Ideal.div (A (ix3 b s k) - meanR A b s) (Ideal.sqrt (varR A b s + Ideal.ofBits .f32 0x3727C5AC#32)) := by
  refine congrArg₂ Ideal.div (dev_apply A b s k) ((spread_row _ b s k).trans ?_)
  exact congrArg Ideal.sqrt (congrArg₂ (· + ·) (var_apply A b s) (broadcastInDim_scalar_apply _ _ _))

theorem prod_apply (b : Fin 2) (k : Fin 2048) : prodV E W (ix3 b (0 : Fin 1) k) = ∑ j : Fin 128, E (ix2 b j) * W (ix2 j k) := by
  refine (broadcastInDim_apply _ _ _ _ (ix2 b k) ?_).trans ?_
  · intro a
    match a with
    | ⟨0, _⟩ => rfl
    | ⟨1, _⟩ => rfl
  · exact StackMember.dotGeneral_plain_apply (m := 2) (k := 128) (n := 2048) none _ _ b k

theorem res_apply (b : Fin 2) (s : Fin 4096) (k : Fin 2048) :
    resV A E W V (ix3 b s k)
      = Ideal.div (A (ix3 b s k) - meanR A b s) (Ideal.sqrt (varR A b s + Ideal.ofBits .f32 0x3727C5AC#32))
          * (1 + ∑ j : Fin 128, E (ix2 b j) * W (ix2 j k)) + ∑ j : Fin 128, E (ix2 b j) * V (ix2 j k) := by
  refine congrArg₂ (· + ·) (congrArg₂ (· * ·) (norm_apply A b s k) ((spread_line _ b s k).trans ?_)) ((spread_line _ b s k).trans (prod_apply E V b k))
  exact congrArg₂ (· + ·) ((broadcastInDim_scalar_apply _ _ _).trans Ideal.ofBits_one_f32) (prod_apply E W b k)

/-- The reference's result of the arguments in memory. -/
def refC (m : (ℓ : Loc nD τ sig) → Buf (Elt Ideal) ℓ) : S2x4096x2048.Idx → EReal :=
  resV (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))

end Cert.RefProof

end
-- ==== Proof.KIValue.lean ====
/-
Every device's output block is its block of the reference's result, when the activations are numbers.
-/
module

public import proofs.«01_k».proof.Defs
public import proofs.«01_k».proof.Proof.KIKern
public import proofs.«01_k».proof.Proof.KIRef
public import Idealize.ShloMosaic.Lib.Layout

@[expose] public section

noncomputable section

namespace Cert.KIProof

open Cert.KernelIdeal Cert.KernelIdeal.Gen

open Idealize.ShloMosaic
open Idealize.ShloMosaic.TcCoe
open Idealize.ShloMosaic.ValueIdx
open scoped BigOperators

/-- The reference's result. -/
abbrev refC (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v26) :=
  Cert.RefProof.refC m'

variable (m : (ℓ : Loc nD τ sig) → Buf (Elt Ideal) ℓ)

/-! ## The precondition -/

/-- An extended real below infinity in absolute value is a number. -/
theorem real_of_abs (x : EReal) (h : Ideal.cmp .olt (max x (-x)) (Ideal.ofBits .f32 0x7F800000#32) = 1#1) : ∃ r : ℝ, x = (r : EReal) := by
  rw [Row.bits_top] at h
  have hlt : max x (-x) < ⊤ := by
    by_contra hn
    unfold Ideal.cmp at h
    simp only [hn, decide_false] at h
    exact absurd h (by decide)
  induction x using EReal.rec with
  | bot => exact absurd hlt (by simp)
  | coe r => exact ⟨r, rfl⟩
  | top => exact absurd hlt (by simp)

theorem real_of_pre [Cert.Pre_finite_KernelIdeal.Facts] (hpre : Cert.Pre_KernelIdeal_finite_KernelIdeal m) (c : Dev nD) (i : S2x4096x512.Idx) :
    ∃ r : ℝ, X m c i = (r : EReal) := by
  refine real_of_abs _ ((congrArg (Ideal.cmp .olt (max (X m c i) (-(X m c i)))) ?_).trans (congrFun (hpre c) i))
  exact (broadcastInDim_scalar_apply Cert.Pre_finite_KernelIdeal.Facts.bcast_S_S2x4096x512
    (constant Cert.Pre_finite_KernelIdeal.S_ .f32 0x7F800000#32 : FVec Ideal Cert.Pre_finite_KernelIdeal.S_ .f32) i).symm

/-! ## The blocks -/

/-- The column of the whole array that column `l` of device `c`'s block is. -/
abbrev col (c : Dev nD) (l : Fin 512) : Fin 2048 := ⟨c.val * 512 + l.val, by have h : c.val < 4 := c.isLt; omega⟩

theorem block3 {α : Type} (c : Dev nD) (v : (⟨3, ![2, 4096, 2048]⟩ : Shape).Idx → α) (h : Layout.Tiles ⟨3, ![2, 4096, 512]⟩ ⟨3, ![2, 4096, 2048]⟩ 2 4)
    (b : Fin 2) (s : Fin 4096) (l : Fin 512) :
    Layout.block ⟨3, ![2, 4096, 512]⟩ ⟨3, ![2, 4096, 2048]⟩ 2 4 c v h (ix3 b s l) = v (ix3 b s (col c l)) := by
  refine congrArg v (funext fun a => ?_)
  match a with
  | ⟨0, _⟩ => rfl
  | ⟨1, _⟩ => rfl
  | ⟨2, _⟩ => rfl

theorem block2 {α : Type} (c : Dev nD) (v : (⟨2, ![128, 2048]⟩ : Shape).Idx → α) (h : Layout.Tiles ⟨2, ![128, 512]⟩ ⟨2, ![128, 2048]⟩ 1 4)
    (k : Fin 128) (l : Fin 512) :
    Layout.block ⟨2, ![128, 512]⟩ ⟨2, ![128, 2048]⟩ 1 4 c v h (ix2 k l) = v (ix2 k (col c l)) := by
  refine congrArg v (funext fun a => ?_)
  match a with
  | ⟨0, _⟩ => rfl
  | ⟨1, _⟩ => rfl

/-! ## The equality -/

/-- The normalisation of one element on both sides. -/
theorem norm_side (A : (⟨3, ![2, 4096, 2048]⟩ : Shape).Idx → EReal) (hA : ∀ c b s l, X m c (ix3 b s l) = A (ix3 b s (col c l)))
    (hr : ∀ c i, ∃ r : ℝ, X m c i = (r : EReal)) (c : Dev nD) (b : Fin 2) (s : Fin 4096) (l : Fin 512) :
    X m c (ix3 b s l) * rsq (S1 m b s) (S2 m b s) + (0 - mean (S1 m b s)) * rsq (S1 m b s) (S2 m b s)
      = Ideal.div (A (ix3 b s (col c l)) - RefProof.meanR A b s) (Ideal.sqrt (RefProof.varR A b s + Ideal.ofBits .f32 0x3727C5AC#32)) := by
  have hreal : ∀ k : Fin 2048, ∃ r : ℝ, A (ix3 b s k) = (r : EReal) := fun k => by
    obtain ⟨r, h⟩ := hr ⟨k.val / 512, by have hk := k.isLt; show k.val / 512 < 4; omega⟩ (ix3 b s (⟨k.val % 512, Nat.mod_lt _ (by decide)⟩ : Fin 512))
    refine ⟨r, Eq.trans (congrArg (fun k => A (ix3 b s k)) ?_) ((hA _ b s _).symm.trans h)⟩
    exact Fin.ext (show k.val = k.val / 512 * 512 + k.val % 512 by omega)
  choose a ha using hreal
  obtain ⟨e, he, hbits⟩ := Row.bits_eps
  have h1 : S1 m b s = ∑ k, (a k : EReal) := by
    rw [Row.sum_blocks]
    exact Finset.sum_congr rfl fun d _ => Finset.sum_congr rfl fun l _ => (hA (dv d) b s l).trans (ha _)
  have h2 : S2 m b s = ∑ k, (a k : EReal) * (a k : EReal) := by
    rw [Row.sum_blocks]
    exact Finset.sum_congr rfl fun d _ => Finset.sum_congr rfl fun l _ =>
      congrArg₂ (· * ·) ((hA (dv d) b s l).trans (ha _)) ((hA (dv d) b s l).trans (ha _))
  have hm : RefProof.meanR A b s = Ideal.div (∑ k, (a k : EReal)) ((2048 : ℝ) : EReal) :=
    congrArg (fun x => Ideal.div x _) (Finset.sum_congr rfl fun k _ => ha k)
  have hv : RefProof.varR A b s = Ideal.div (∑ k, ((a k : EReal) - Ideal.div (∑ k, (a k : EReal)) ((2048 : ℝ) : EReal))
      * ((a k : EReal) - Ideal.div (∑ k, (a k : EReal)) ((2048 : ℝ) : EReal))) ((2048 : ℝ) : EReal) := by
    unfold RefProof.varR
    rw [hm]
    exact congrArg (fun x => Ideal.div x _) (Finset.sum_congr rfl fun k _ => by rw [ha k])
  have hq : ∀ S Q, rsq S Q = Row.rs S Q e := fun S Q => by unfold rsq mean Row.rs; rw [Row.bits_inv, hbits]
  have hme : ∀ S, mean S = S * ((1 / 2048 : ℝ) : EReal) := fun S => by unfold mean; rw [Row.bits_inv]
  rw [hA, ha, hq, hme, h1, h2, hm, hv, hbits]
  exact Row.norm_eq a e he (col c l)

/-- Every element of device `c`'s output block is the reference's at its place. -/
theorem out_core (A : (⟨3, ![2, 4096, 2048]⟩ : Shape).Idx → EReal) (E : (⟨2, ![2, 128]⟩ : Shape).Idx → EReal) (W V : (⟨2, ![128, 2048]⟩ : Shape).Idx → EReal)
    (hA : ∀ c b s l, X m c (ix3 b s l) = A (ix3 b s (col c l))) (hr : ∀ c i, ∃ r : ℝ, X m c i = (r : EReal)) (hE : ∀ c i, T m c i = E i)
    (hW : ∀ c k l, Wsc m c (ix2 k l) = W (ix2 k (col c l))) (hV : ∀ c k l, Wsh m c (ix2 k l) = V (ix2 k (col c l)))
    (c : Dev nD) (b : Fin 2) (s : Fin 4096) (l : Fin 512) :
    outC m c (ix3 b s l) = RefProof.resV A E W V (ix3 b s (col c l)) := by
  refine (out_apply m c b s l).trans (Eq.trans ?_ (RefProof.res_apply A E W V b s (col c l)).symm)
  have h1 : sc m c b l = ∑ j : Fin 128, E (ix2 b j) * W (ix2 j (col c l)) :=
    Finset.sum_congr rfl fun k _ => congrArg₂ (· * ·) (hE c _) (hW c k l)
  have h2 : sh m c b l = ∑ j : Fin 128, E (ix2 b j) * V (ix2 j (col c l)) :=
    Finset.sum_congr rfl fun k _ => congrArg₂ (· * ·) (hE c _) (hV c k l)
  rw [h1, h2, norm_side m A hA hr c b s l]

theorem out_eq (m' : (ℓ : Loc Cert.ReferenceIdeal.nD Cert.ReferenceIdeal.τ Cert.ReferenceIdeal.sig) → Buf (Elt Ideal) ℓ)
    (hr : ∀ c i, ∃ r : ℝ, X m c i = (r : EReal))
    (hag : ∀ c : Dev nD,
      m ((c.tc : Thread nD τ).loc main_arg0) = Layout.block ⟨3, ![2, 4096, 512]⟩ ⟨3, ![2, 4096, 2048]⟩ 2 4 c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)
      ∧ m ((c.tc : Thread nD τ).loc main_arg2) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg3)))
    (c : Dev nD) : outC m c = Layout.block ⟨3, ![2, 4096, 512]⟩ ⟨3, ![2, 4096, 2048]⟩ 2 4 c (refC m') := by
  funext i
  obtain ⟨b, s, l, rfl⟩ : ∃ (b : Fin 2) (s : Fin 4096) (l : Fin 512), i = ix3 b s l := ⟨i 0, i 1, i 2, eq_ix3 i⟩
  refine Eq.trans ?_ (block3 c (refC m') _ b s l).symm
  refine out_core m _ _ _ _ (fun c b s l => ?_) hr (fun c i => ?_) (fun c k l => ?_) (fun c k l => ?_) c b s l
  · exact (congrFun (hag c).1 _).trans (block3 c _ _ b s l)
  · exact congrFun (hag c).2.1 i
  · exact (congrFun (hag c).2.2.1 _).trans (block2 c _ _ k l)
  · exact (congrFun (hag c).2.2.2 _).trans (block2 c _ _ k l)

end Cert.KIProof

end
-- ==== Proof.lean ====
/-
The proof of `Cert.Claim`: the frames of the kernel, of its idealization and of the reference, and the equality of the
kernel's result with the reference's over the extended reals.
-/
module

public import proofs.«01_k».proof.Defs
public import proofs.«01_k».proof.Proof.KMain
public import proofs.«01_k».proof.Proof.KIValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The side conditions of the precondition, read on one device's blocks and on the whole arrays. -/
theorem factsPreK : Cert.Pre_finite_KernelIdeal.Facts := ⟨by decide⟩
theorem factsPreR : Cert.Pre_finite_ReferenceIdeal.Facts := ⟨by decide⟩

/-- The kernel runs, its arguments end unchanged and every counter ends at zero. -/
theorem frame_Kernel : Cert.quiescent_Kernel := fun m g _ =>
  (θ_run Cert.Kernel.defs _ _).mono (fun _ h => ⟨fun c => (h.1 c).2, h.2⟩) (Cert.KProof.run_main (F := Bits) m g)

/-- So does its idealization, -/
theorem frame_KernelIdeal : Cert.quiescent_KernelIdeal := fun m g _ =>
  (θ_run Cert.KernelIdeal.defs _ _).mono (fun _ h => ⟨fun c => (h.1 c).2, h.2⟩) (Cert.KIProof.run_main (F := Ideal) m g)

/-- and the reference. -/
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, from finite activations, every device ends with its block of the reference's result. -/
theorem value [Cert.Pre_finite_KernelIdeal.Facts] : Cert.algebraic_KernelIdeal_ReferenceIdeal_pre_finite_KernelIdeal := by
  intro m g m' g' hpre hag
  refine ⟨Cert.KIProof.refC m', ?_, ?_⟩
  · refine (θ_run Cert.KernelIdeal.defs _ _).mono (fun r h c => ⟨(h.1 c).1.trans ?_, (h.1 c).2⟩) (Cert.KIProof.run_main (F := Ideal) m g)
    exact Cert.KIProof.out_eq m m' (Cert.KIProof.real_of_pre m hpre) hag c
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, factsPreK, factsPreR,
    frame_Kernel, frame_KernelIdeal, fun m g _ => frame_KernelIdeal m g trivial,
    frame_ReferenceIdeal, fun m g _ => frame_ReferenceIdeal m g trivial, trivial,
    letI := factsPreK; value⟩

end Cert.Proof

end
